-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "hundred_thousandth" .f32 0x3727C5AC#32 ((1 / 100000 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S100000x128 : Shape := ⟨2, ![100000, 128]⟩
abbrev S2x1600000 : Shape := ⟨2, ![2, 1600000]⟩
abbrev S100000 : Shape := ⟨1, ![100000]⟩
abbrev S65 : Shape := ⟨1, ![65]⟩
abbrev S128x128 : Shape := ⟨2, ![128, 128]⟩
abbrev S128 : Shape := ⟨1, ![128]⟩
abbrev S128x8 : Shape := ⟨2, ![128, 8]⟩
abbrev S8 : Shape := ⟨1, ![8]⟩
abbrev S136x128 : Shape := ⟨2, ![136, 128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S136x128 : S_.BroadcastsInDim S136x128 (![] : Fin 0 → Fin S136x128.rank)
  reducesTo_S136x128_S_d0_1 : S136x128.ReducesTo [0, 1] S_

variable [Facts]

def fn_part3 {F : FTy → Type} [FloatOps F] (main_arg13 : FVec F S128 .f32) (main_arg14 : FVec F S128x128 .f32) (main_arg15 : FVec F S128 .f32) (main_v46 : IVec S_ 1) (main_v49 : IVec S128x128 1) (main_c_19 : IVec S_ 1) : IVec S_ 1 :=
  let main_v50 : IVec S_ 1 := (fun x v => Host.reduce IntOp.andi x v reducesTo_S128x128_S_d0_1 h_S_) main_v49 main_c_19
  let main_v51 : IVec S_ 1 := andi main_v46 main_v50
  let main_v52 : FVec F S128 .f32 := Host.absf main_arg13
  let main_cst_20 : FVec F S_ .f32 := constant S_ .f32 0x7F800000#32
  let main_v53 : FVec F S128 .f32 := broadcastInDim S128 ![] bcast_S_S128 main_cst_20
  let main_v54 : IVec S128 1 := cmpf .olt main_v52 main_v53
  let main_c_21 : IVec S_ 1 := constantI S_ 1 1#1
  let main_v55 : IVec S_ 1 := (fun x v => Host.reduce IntOp.andi x v reducesTo_S128_S_d0 h_S_) main_v54 main_c_21
  let main_v56 : IVec S_ 1 := andi main_v51 main_v55
  let main_v57 : FVec F S128x128 .f32 := Host.absf main_arg14
  let main_cst_22 : FVec F S_ .f32 := constant S_ .f32 0x7F800000#32
  let main_v58 : FVec F S128x128 .f32 := broadcastInDim S128x128 ![] bcast_S_S128x128 main_cst_22
  let main_v59 : IVec S128x128 1 := cmpf .olt main_v57 main_v58
  let main_c_23 : IVec S_ 1 := constantI S_ 1 1#1
  let main_v60 : IVec S_ 1 := (fun x v => Host.reduce IntOp.andi x v reducesTo_S128x128_S_d0_1 h_S_) main_v59 main_c_23
  let main_v61 : IVec S_ 1 := andi main_v56 main_v60
  let main_v62 : FVec F S128 .f32 := Host.absf main_arg15
  let main_cst_24 : FVec F S_ .f32 := constant S_ .f32 0x7F800000#32
  let main_v63 : FVec F S128 .f32 := broadcastInDim S128 ![] bcast_S_S128 main_cst_24
  let main_v64 : IVec S128 1 := cmpf .olt main_v62 main_v63
  let main_c_25 : IVec S_ 1 := constantI S_ 1 1#1
  let main_v65 : IVec S_ 1 := (fun x v => Host.reduce IntOp.andi x v reducesTo_S128_S_d0 h_S_) main_v64 main_c_25
  let main_v66 : IVec S_ 1 := andi main_v61 main_v65
  main_v66

def fn_part2 {F : FTy → Type} [FloatOps F] (main_arg10 : FVec F S128 .f32) (main_arg11 : FVec F S136x128 .f32) (main_arg12 : FVec F S128x128 .f32) (main_arg13 : FVec F S128 .f32) (main_arg14 : FVec F S128x128 .f32) (main_arg15 : FVec F S128 .f32) (main_v31 : IVec S_ 1) (main_v32 : FVec F S136x128 .f32) (main_cst_12 : FVec F S_ .f32) : IVec S_ 1 :=
  let main_v33 : FVec F S136x128 .f32 := broadcastInDim S136x128 ![] bcast_S_S136x128 main_cst_12
  let main_v34 : IVec S136x128 1 := cmpf .olt main_v32 main_v33
  let main_c_13 : IVec S_ 1 := constantI S_ 1 1#1
  let main_v35 : IVec S_ 1 := (fun x v => Host.reduce IntOp.andi x v reducesTo_S136x128_S_d0_1 h_S_) main_v34 main_c_13
  let main_v36 : IVec S_ 1 := andi main_v31 main_v35
  let main_v37 : FVec F S128 .f32 := Host.absf main_arg10
  let main_cst_14 : FVec F S_ .f32 := constant S_ .f32 0x7F800000#32
  let main_v38 : FVec F S128 .f32 := broadcastInDim S128 ![] bcast_S_S128 main_cst_14
  let main_v39 : IVec S128 1 := cmpf .olt main_v37 main_v38
  let main_c_15 : IVec S_ 1 := constantI S_ 1 1#1
  let main_v40 : IVec S_ 1 := (fun x v => Host.reduce IntOp.andi x v reducesTo_S128_S_d0 h_S_) main_v39 main_c_15
  let main_v41 : IVec S_ 1 := andi main_v36 main_v40
  let main_v42 : FVec F S136x128 .f32 := Host.absf main_arg11
  let main_cst_16 : FVec F S_ .f32 := constant S_ .f32 0x7F800000#32
  let main_v43 : FVec F S136x128 .f32 := broadcastInDim S136x128 ![] bcast_S_S136x128 main_cst_16
  let main_v44 : IVec S136x128 1 := cmpf .olt main_v42 main_v43
  let main_c_17 : IVec S_ 1 := constantI S_ 1 1#1
  let main_v45 : IVec S_ 1 := (fun x v => Host.reduce IntOp.andi x v reducesTo_S136x128_S_d0_1 h_S_) main_v44 main_c_17
  let main_v46 : IVec S_ 1 := andi main_v41 main_v45
  let main_v47 : FVec F S128x128 .f32 := Host.absf main_arg12
  let main_cst_18 : FVec F S_ .f32 := constant S_ .f32 0x7F800000#32
  let main_v48 : FVec F S128x128 .f32 := broadcastInDim S128x128 ![] bcast_S_S128x128 main_cst_18
  let main_v49 : IVec S128x128 1 := cmpf .olt main_v47 main_v48
  let main_c_19 : IVec S_ 1 := constantI S_ 1 1#1
  fn_part3 (F := F) main_arg13 main_arg14 main_arg15 main_v46 main_v49 main_c_19

def fn_part1 {F : FTy → Type} [FloatOps F] (main_arg6 : FVec F S128 .f32) (main_arg7 : FVec F S128x8 .f32) (main_arg8 : FVec F S8 .f32) (main_arg9 : FVec F S136x128 .f32) (main_arg10 : FVec F S128 .f32) (main_arg11 : FVec F S136x128 .f32) (main_arg12 : FVec F S128x128 .f32) (main_arg13 : FVec F S128 .f32) (main_arg14 : FVec F S128x128 .f32) (main_arg15 : FVec F S128 .f32) (main_v11 : IVec S_ 1) (main_v15 : IVec S_ 1) : IVec S_ 1 :=
  let main_v16 : IVec S_ 1 := andi main_v11 main_v15
  let main_v17 : FVec F S128 .f32 := Host.absf main_arg6
  let main_cst_6 : FVec F S_ .f32 := constant S_ .f32 0x7F800000#32
  let main_v18 : FVec F S128 .f32 := broadcastInDim S128 ![] bcast_S_S128 main_cst_6
  let main_v19 : IVec S128 1 := cmpf .olt main_v17 main_v18
  let main_c_7 : IVec S_ 1 := constantI S_ 1 1#1
  let main_v20 : IVec S_ 1 := (fun x v => Host.reduce IntOp.andi x v reducesTo_S128_S_d0 h_S_) main_v19 main_c_7
  let main_v21 : IVec S_ 1 := andi main_v16 main_v20
  let main_v22 : FVec F S128x8 .f32 := Host.absf main_arg7
  let main_cst_8 : FVec F S_ .f32 := constant S_ .f32 0x7F800000#32
  let main_v23 : FVec F S128x8 .f32 := broadcastInDim S128x8 ![] bcast_S_S128x8 main_cst_8
  let main_v24 : IVec S128x8 1 := cmpf .olt main_v22 main_v23
  let main_c_9 : IVec S_ 1 := constantI S_ 1 1#1
  let main_v25 : IVec S_ 1 := (fun x v => Host.reduce IntOp.andi x v reducesTo_S128x8_S_d0_1 h_S_) main_v24 main_c_9
  let main_v26 : IVec S_ 1 := andi main_v21 main_v25
  let main_v27 : FVec F S8 .f32 := Host.absf main_arg8
  let main_cst_10 : FVec F S_ .f32 := constant S_ .f32 0x7F800000#32
  let main_v28 : FVec F S8 .f32 := broadcastInDim S8 ![] bcast_S_S8 main_cst_10
  let main_v29 : IVec S8 1 := cmpf .olt main_v27 main_v28
  let main_c_11 : IVec S_ 1 := constantI S_ 1 1#1
  let main_v30 : IVec S_ 1 := (fun x v => Host.reduce IntOp.andi x v reducesTo_S8_S_d0 h_S_) main_v29 main_c_11
  let main_v31 : IVec S_ 1 := andi main_v26 main_v30
  let main_v32 : FVec F S136x128 .f32 := Host.absf main_arg9
  let main_cst_12 : FVec F S_ .f32 := constant S_ .f32 0x7F800000#32
  fn_part2 (F := F) main_arg10 main_arg11 main_arg12 main_arg13 main_arg14 main_arg15 main_v31 main_v32 main_cst_12

def fn {F : FTy → Type} [FloatOps F] (main_arg0 : FVec F S100000x128 .f32) (main_arg1 : IVec S2x1600000 32) (main_arg2 : IVec S100000 32) (main_arg3 : IVec S65 32) (main_arg4 : IVec S65 32) (main_arg5 : FVec F S128x128 .f32) (main_arg6 : FVec F S128 .f32) (main_arg7 : FVec F S128x8 .f32) (main_arg8 : FVec F S8 .f32) (main_arg9 : FVec F S136x128 .f32) (main_arg10 : FVec F S128 .f32) (main_arg11 : FVec F S136x128 .f32) (main_arg12 : FVec F S128x128 .f32) (main_arg13 : FVec F S128 .f32) (main_arg14 : FVec F S128x128 .f32) (main_arg15 : FVec F S128 .f32) (main_arg16 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 64#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : FVec F S100000x128 .f32 := Host.absf main_arg0
  let main_cst : FVec F S_ .f32 := constant S_ .f32 0x7F800000#32
  let main_v8 : FVec F S100000x128 .f32 := broadcastInDim S100000x128 ![] bcast_S_S100000x128 main_cst
  let main_v9 : IVec S100000x128 1 := cmpf .olt main_v7 main_v8
  let main_c_3 : IVec S_ 1 := constantI S_ 1 1#1
  let main_v10 : IVec S_ 1 := (fun x v => Host.reduce IntOp.andi x v reducesTo_S100000x128_S_d0_1 h_S_) main_v9 main_c_3
  let main_v11 : IVec S_ 1 := andi main_v6 main_v10
  let main_v12 : FVec F S128x128 .f32 := Host.absf main_arg5
  let main_cst_4 : FVec F S_ .f32 := constant S_ .f32 0x7F800000#32
  let main_v13 : FVec F S128x128 .f32 := broadcastInDim S128x128 ![] bcast_S_S128x128 main_cst_4
  let main_v14 : IVec S128x128 1 := cmpf .olt main_v12 main_v13
  let main_c_5 : IVec S_ 1 := constantI S_ 1 1#1
  let main_v15 : IVec S_ 1 := (fun x v => Host.reduce IntOp.andi x v reducesTo_S128x128_S_d0_1 h_S_) main_v14 main_c_5
  fn_part1 (F := F) main_arg6 main_arg7 main_arg8 main_arg9 main_arg10 main_arg11 main_arg12 main_arg13 main_arg14 main_arg15 main_v11 main_v15
-- ==== Kernel.lean ====
abbrev S100000x128 : Shape := ⟨2, ![100000, 128]⟩
abbrev S2x1600000 : Shape := ⟨2, ![2, 1600000]⟩
abbrev S100000 : Shape := ⟨1, ![100000]⟩
abbrev S65 : Shape := ⟨1, ![65]⟩
abbrev S128x128 : Shape := ⟨2, ![128, 128]⟩
abbrev S128 : Shape := ⟨1, ![128]⟩
abbrev S128x8 : Shape := ⟨2, ![128, 8]⟩
abbrev S8 : Shape := ⟨1, ![8]⟩
abbrev S136x128 : Shape := ⟨2, ![136, 128]⟩
abbrev S100000x1 : Shape := ⟨2, ![100000, 1]⟩
abbrev S1x128 : Shape := ⟨2, ![1, 128]⟩
abbrev S1x8 : Shape := ⟨2, ![1, 8]⟩
abbrev S100000x8 : Shape := ⟨2, ![100000, 8]⟩
abbrev S64x128 : Shape := ⟨2, ![64, 128]⟩
abbrev S64x8 : Shape := ⟨2, ![64, 8]⟩
abbrev S64x1 : Shape := ⟨2, ![64, 1]⟩
abbrev S10000x128 : Shape := ⟨2, ![10000, 128]⟩
abbrev S10000x1 : Shape := ⟨2, ![10000, 1]⟩
abbrev S10000x8 : Shape := ⟨2, ![10000, 8]⟩
abbrev S10000x64 : Shape := ⟨2, ![10000, 64]⟩
abbrev S8x128 : Shape := ⟨2, ![8, 128]⟩

abbrev nBuf : Space → Nat
  | .hbm => 32
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S65, .i32⟩
  | .hbm, ⟨4, _⟩ => ⟨S65, .i32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S136x128, .f32⟩
  | .hbm, ⟨10, _⟩ => ⟨S128, .f32⟩
  | .hbm, ⟨11, _⟩ => ⟨S136x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S100000x1, .i32⟩
  | .hbm, ⟨18, _⟩ => ⟨S1x128, .f32⟩
  | .hbm, ⟨19, _⟩ => ⟨S1x8, .f32⟩
  | .hbm, ⟨20, _⟩ => ⟨S100000x8, .bf16⟩
  | .hbm, ⟨21, _⟩ => ⟨S64x128, .f32⟩
  | .hbm, ⟨22, _⟩ => ⟨S64x8, .f32⟩
  | .hbm, ⟨23, _⟩ => ⟨S64x1, .f32⟩
  | .hbm, ⟨24, _⟩ => ⟨S1x128, .f32⟩
  | .hbm, ⟨25, _⟩ => ⟨S64x128, .f32⟩
  | .hbm, ⟨26, _⟩ => ⟨S128x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .i32⟩
  | .local _ .vmem, ⟨3, _⟩ => ⟨S10000x1, .i32⟩
  | .local _ .vmem, ⟨4, _⟩ => ⟨S128x128, .f32⟩
  | .local _ .vmem, ⟨5, _⟩ => ⟨S1x128, .f32⟩
  | .local _ .vmem, ⟨6, _⟩ => ⟨S128x8, .f32⟩
  | .local _ .vmem, ⟨7, _⟩ => ⟨S1x8, .f32⟩
  | .local _ .vmem, ⟨8, _⟩ => ⟨S10000x8, .bf16⟩
  | .local _ .vmem, ⟨9, _⟩ => ⟨S10000x8, .bf16⟩
  | .local _ .vmem, ⟨10, _⟩ => ⟨S64x128, .f32⟩
  | .local _ .vmem, ⟨11, _⟩ => ⟨S64x8, .f32⟩
  | .local _ .vmem, ⟨12, _⟩ => ⟨S64x1, .f32⟩
  | .local _ .vmem, ⟨13, _⟩ => ⟨S10000x128, .f32⟩
  | .local _ .vmem, ⟨14, _⟩ => ⟨S10000x128, .f32⟩
  | .local _ .vmem, ⟨15, _⟩ => ⟨S10000x8, .bf16⟩
  | .local _ .vmem, ⟨16, _⟩ => ⟨S10000x8, .bf16⟩
  | .local _ .vmem, ⟨17, _⟩ => ⟨S10000x1, .i32⟩
  | .local _ .vmem, ⟨18, _⟩ => ⟨S10000x1, .i32⟩
  | .local _ .vmem, ⟨19, _⟩ => ⟨S136x128, .f32⟩
  | .local _ .vmem, ⟨20, _⟩ => ⟨S136x128, .f32⟩
  | .local _ .vmem, ⟨21, _⟩ => ⟨S1x128, .f32⟩
  | .local _ .vmem, ⟨22, _⟩ => ⟨S64x128, .f32⟩
  | .local _ .vmem, ⟨23, _⟩ => ⟨S64x8, .f32⟩
  | .local _ .vmem, ⟨24, _⟩ => ⟨S64x1, .f32⟩
  | .local _ .vmem, ⟨25, _⟩ => ⟨S64x128, .f32⟩
  | .local _ .vmem, ⟨26, _⟩ => ⟨S128x128, .f32⟩
  | .local _ .vmem, ⟨27, _⟩ => ⟨S10000x128, .f32⟩
  | .local _ .vmem, ⟨28, _⟩ => ⟨S10000x128, .f32⟩
  | .local _ .vmem, ⟨29, _⟩ => ⟨S10000x8, .bf16⟩
  | .local _ .vmem, ⟨30, _⟩ => ⟨S10000x8, .bf16⟩
  | .local _ .vmem, ⟨31, _⟩ => ⟨S10000x1, .i32⟩
  | .local _ .vmem, ⟨32, _⟩ => ⟨S10000x1, .i32⟩
  | .local _ .vmem, ⟨33, _⟩ => ⟨S136x128, .f32⟩
  | .local _ .vmem, ⟨34, _⟩ => ⟨S136x128, .f32⟩
  | .local _ .vmem, ⟨35, _⟩ => ⟨S1x128, .f32⟩
  | .local _ .vmem, ⟨36, _⟩ => ⟨S128x128, .f32⟩
  | .local _ .vmem, ⟨37, _⟩ => ⟨S128x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S64x128, .f32⟩
  | .local _ .vmem, ⟨42, _⟩ => ⟨S64x8, .f32⟩
  | .local _ .vmem, ⟨43, _⟩ => ⟨S64x1, .f32⟩
  | .local _ .vmem, ⟨44, _⟩ => ⟨S64x128, .f32⟩
  | .local _ .vmem, ⟨45, _⟩ => ⟨S128x128, .f32⟩
  | .local _ .vmem, ⟨46, _⟩ => ⟨S10000x128, .f32⟩
  | .local _ .vmem, ⟨47, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev main_v3_3 : Ref sig .tc := ⟨.hbm, 23, rfl⟩
abbrev main_v4 : Ref sig .tc := ⟨.hbm, 24, rfl⟩
abbrev main_v5_0 : Ref sig .tc := ⟨.hbm, 25, rfl⟩
abbrev main_v5_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc2_stg15_0 : Ref sig .tc := ⟨.vmem, 45, rfl⟩
abbrev cc2_stg16_0 : Ref sig .tc := ⟨.vmem, 46, rfl⟩
abbrev cc2_stg16_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem12_0 : DmaSem sig := 42
abbrev cc2_sem13_0 : DmaSem sig := 43
abbrev cc2_sem14_0 : DmaSem sig := 44
abbrev cc2_sem15_0 : DmaSem sig := 45
abbrev cc2_sem16_0 : DmaSem sig := 46
abbrev cc2_sem16_1 : DmaSem sig := 47

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_19 : BitVec 32 := 0#32
  let v31 : BitVec 1 := Scalar.cmpi .ne v30 c0_i32_19
  v31

def k0_cond2 (i : grid0.Coords) : BitVec 1 :=
  let arg0 : BitVec 32 := BitVec.ofNat 32 (i 0).val
  let c0_i32_20 : BitVec 32 := 0#32
  let v32 : BitVec 1 := Scalar.cmpi .sgt arg0 c0_i32_20
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x8 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![10], ![false]⟩

def k1_cond1 (i : grid1.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_28 : BitVec 32 := 0#32
  let v51 : BitVec 1 := Scalar.cmpi .ne v50 c0_i32_28
  v51

def k1_cond2 (i : grid1.Coords) : BitVec 1 :=
  let arg0 : BitVec 32 := BitVec.ofNat 32 (i 0).val
  let c0_i32_29 : BitVec 32 := 0#32
  let v52 : BitVec 1 := Scalar.cmpi .sgt arg0 c0_i32_29
  let v53 : BitVec 32 := Scalar.extui v52
  let c0_i32_30 : BitVec 32 := 0#32
  let v54 : BitVec 1 := Scalar.cmpi .ne v53 c0_i32_30
  v54

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x8 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S136x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S136x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x8 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S136x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S136x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x8 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S10000x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]
-- ==== KernelIdeal.lean ====
variable {F : FTy → Type} [FloatOps F] [Named F]
def κ : String → Option EReal := fun
  | "hundred_thousandth" => some ((1 / 100000 : ℝ) : EReal)
  | _ => none
-- ==== ReferenceIdeal.lean ====
abbrev S100000x128 : Shape := ⟨2, ![100000, 128]⟩
abbrev S2x1600000 : Shape := ⟨2, ![2, 1600000]⟩
abbrev S100000 : Shape := ⟨1, ![100000]⟩
abbrev S65 : Shape := ⟨1, ![65]⟩
abbrev S128x128 : Shape := ⟨2, ![128, 128]⟩
abbrev S128 : Shape := ⟨1, ![128]⟩
abbrev S128x8 : Shape := ⟨2, ![128, 8]⟩
abbrev S8 : Shape := ⟨1, ![8]⟩
abbrev S136x128 : Shape := ⟨2, ![136, 128]⟩
abbrev S1x128 : Shape := ⟨2, ![1, 128]⟩
abbrev S_ : Shape := ⟨0, ![]⟩
abbrev S100000x8 : Shape := ⟨2, ![100000, 8]⟩
abbrev S1x8 : Shape := ⟨2, ![1, 8]⟩
abbrev S100000x136 : Shape := ⟨2, ![100000, 136]⟩
abbrev S64 : Shape := ⟨1, ![64]⟩
abbrev S100000x1 : Shape := ⟨2, ![100000, 1]⟩
abbrev S64x136 : Shape := ⟨2, ![64, 136]⟩
abbrev S64x1 : Shape := ⟨2, ![64, 1]⟩
abbrev S64x128 : Shape := ⟨2, ![64, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S65, .i32⟩
  | .hbm, ⟨4, _⟩ => ⟨S65, .i32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S136x128, .f32⟩
  | .hbm, ⟨10, _⟩ => ⟨S128, .f32⟩
  | .hbm, ⟨11, _⟩ => ⟨S136x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x8, .f32⟩
  | .hbm, ⟨25, _⟩ => ⟨S1x8, .f32⟩
  | .hbm, ⟨26, _⟩ => ⟨S100000x8, .f32⟩
  | .hbm, ⟨27, _⟩ => ⟨S100000x8, .f32⟩
  | .hbm, ⟨28, _⟩ => ⟨S100000x136, .f32⟩
  | .hbm, ⟨29, _⟩ => ⟨S_, .f32⟩
  | .hbm, ⟨30, _⟩ => ⟨S100000, .f32⟩
  | .hbm, ⟨31, _⟩ => ⟨S_, .f32⟩
  | .hbm, ⟨32, _⟩ => ⟨S64, .f32⟩
  | .hbm, ⟨33, _⟩ => ⟨S100000x1, .i32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64x136, .f32⟩
  | .hbm, ⟨40, _⟩ => ⟨S100000x1, .i32⟩
  | .hbm, ⟨41, _⟩ => ⟨S64x136, .f32⟩
  | .hbm, ⟨42, _⟩ => ⟨S64x1, .f32⟩
  | .hbm, ⟨43, _⟩ => ⟨S64x136, .f32⟩
  | .hbm, ⟨44, _⟩ => ⟨S64x136, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S64x128, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S64x128, .f32⟩
  | .hbm, ⟨65, _⟩ => ⟨S100000x1, .i32⟩
  | .hbm, ⟨66, _⟩ => ⟨S64x128, .f32⟩
  | .hbm, ⟨67, _⟩ => ⟨S64x1, .f32⟩
  | .hbm, ⟨68, _⟩ => ⟨S64x128, .f32⟩
  | .hbm, ⟨69, _⟩ => ⟨S64x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S64x128, .f32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S100000, .i32⟩
  | .hbm, ⟨82, _⟩ => ⟨S100000x1, .i32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | .hbm, ⟨115, _⟩ => ⟨S1x128, .f32⟩
  | .hbm, ⟨116, _⟩ => ⟨S100000x128, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_7 : Ref sig .tc := ⟨.hbm, 75, rfl⟩
abbrev main_v49 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== Proof.KernelIdeal.Blocks.lean ====
/- What one grid step of each of the three kernels computes from its input blocks, as functions of those
   blocks (each a composite of the printed program's own values), and the two facts about whole buffers that
   the runs use: a load of a whole buffer reads it, a store to a whole buffer leaves what was stored. -/
module

public import proofs.«01_k».proof.Proof.Gen.KernelIdeal.Skeleton
public import Idealize.ShloMosaic.Lib.Pipeline.FrameBody
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe

/-- One store over the whole of a buffer leaves its payload, however the payload is written. -/
theorem whole_store {Val : EltTy → Type} [∀ e, Nonempty (Val e)] {κ : Kind} {sp : Space} {S : Shape} {e : EltTy}
    (v : View sig κ sp S e) (f : v.ty.Contents Val) {off : Fin S.rank → Nat} (inb : ∀ a, off a + S.size a ≤ S.size a)
    (h : ∀ a, off a = 0) (w w' : S.Idx → Val e) (hw : w = w') :
    v.read Val (v.writes Val f [⟨Rect.unit off S.size inb, w⟩]) = w' := by
  refine (View.read_writes_eq_canon _ _ _ fun y => ⟨_, List.mem_singleton_self _, ?_⟩).trans
    ((View.canon_cons_unit_lit inb w [] h).trans hw)
  obtain rfl : off = fun _ => 0 := funext h
  change y ∈ (Rect.whole S).set
  rw [Rect.set_whole]; exact Finset.mem_univ y

variable {F : FTy → Type} [FloatOps F] [Named F]

/-! The whole of a buffer of each shape the kernels load. -/

abbrev r10000x128 : Rect S10000x128 := Rect.unit (s := S10000x128) ![0, 0] S10000x128.size inb_S10000x128_S10000x128_0_0
abbrev r10000x8 : Rect S10000x8 := Rect.unit (s := S10000x8) ![0, 0] S10000x8.size inb_S10000x8_S10000x8_0_0
abbrev r10000x1 : Rect S10000x1 := Rect.unit (s := S10000x1) ![0, 0] S10000x1.size inb_S10000x1_S10000x1_0_0
abbrev r128x128 : Rect S128x128 := Rect.unit (s := S128x128) ![0, 0] S128x128.size inb_S128x128_S128x128_0_0
abbrev r1x128 : Rect S1x128 := Rect.unit (s := S1x128) ![0, 0] S1x128.size inb_S1x128_S1x128_0_0
abbrev r128x8 : Rect S128x8 := Rect.unit (s := S128x8) ![0, 0] S128x8.size inb_S128x8_S128x8_0_0
abbrev r1x8 : Rect S1x8 := Rect.unit (s := S1x8) ![0, 0] S1x8.size inb_S1x8_S1x8_0_0
abbrev r64x128 : Rect S64x128 := Rect.unit (s := S64x128) ![0, 0] S64x128.size inb_S64x128_S64x128_0_0
abbrev r64x8 : Rect S64x8 := Rect.unit (s := S64x8) ![0, 0] S64x8.size inb_S64x8_S64x8_0_0
abbrev r64x1 : Rect S64x1 := Rect.unit (s := S64x1) ![0, 0] S64x1.size inb_S64x1_S64x1_0_0

/-- The first 128 rows of a matrix of 136. -/
def top (w : Vec F S136x128 .f32) : Vec F S128x128 .f32 :=
  View.ld w (Rect.unit (s := S136x128) ![0, 0] S128x128.size inb_S136x128_S128x128_0_0)
/-- Its last eight rows. -/
def bot (w : Vec F S136x128 .f32) : Vec F S8x128 .f32 :=
  View.ld w (Rect.unit (s := S136x128) ![128, 0] S8x128.size inb_S136x128_S8x128_128_0)

/-! ## First kernel: features `x`, segment column `b`, the small network's weights -/

/-- The small network's output rows. -/
def fv0 (x : Vec F S10000x128 .f32) (w1 : Vec F S128x128 .f32) (b1 : Vec F S1x128 .f32) (w2 : Vec F S128x8 .f32)
    (b2 : Vec F S1x8 .f32) : Vec F S10000x8 .bf16 := k0_pay4 (View.ld x r10000x128) (View.ld w1 r128x128) (View.ld b1 r1x128) (View.ld w2 r128x8) (View.ld b2 r1x8)
/-- The block's segment sums of the features. -/
def sx0 (x : Vec F S10000x128 .f32) (b : Vec F S10000x1 .i32) : Vec F S64x128 .f32 := k0_pay6 (View.ld x r10000x128) (View.ld b r10000x1)
def sx0Add (x : Vec F S10000x128 .f32) (b : Vec F S10000x1 .i32) (y : Vec F S64x128 .f32) : Vec F S64x128 .f32 :=
  k0_pay1 (k0_pay6 (View.ld x r10000x128) (View.ld b r10000x1)) (View.ld y r64x128)
/-- The block's segment sums of the small network's output. -/
def sf0 (x : Vec F S10000x128 .f32) (b : Vec F S10000x1 .i32) (w1 : Vec F S128x128 .f32) (b1 : Vec F S1x128 .f32)
    (w2 : Vec F S128x8 .f32) (b2 : Vec F S1x8 .f32) : Vec F S64x8 .f32 := k0_pay7 (View.ld x r10000x128) (View.ld w1 r128x128) (View.ld b1 r1x128) (View.ld w2 r128x8) (View.ld b2 r1x8) (View.ld b r10000x1)
def sf0Add (x : Vec F S10000x128 .f32) (b : Vec F S10000x1 .i32) (w1 : Vec F S128x128 .f32) (b1 : Vec F S1x128 .f32)
    (w2 : Vec F S128x8 .f32) (b2 : Vec F S1x8 .f32) (y : Vec F S64x8 .f32) : Vec F S64x8 .f32 :=
  k0_pay2 (k0_pay7 (View.ld x r10000x128) (View.ld w1 r128x128) (View.ld b1 r1x128) (View.ld w2 r128x8) (View.ld b2 r1x8) (View.ld b r10000x1)) (View.ld y r64x8)
/-- The block's segment counts. -/
def cn0 (b : Vec F S10000x1 .i32) : Vec F S64x1 .f32 := k0_pay8 (View.ld b r10000x1)
def cn0Add (b : Vec F S10000x1 .i32) (y : Vec F S64x1 .f32) : Vec F S64x1 .f32 := k0_pay3 (k0_pay8 (View.ld b r10000x1)) (View.ld y r64x1)

/-! ## Second kernel: features, network output, segment column, both weight matrices and bias of the first layer,
    and the first kernel's three sums -/

/-- The block's segment sums of the hidden layer. -/
def sy1 (x : Vec F S10000x128 .f32) (f : Vec F S10000x8 .bf16) (b : Vec F S10000x1 .i32) (g l : Vec F S136x128 .f32)
    (gb : Vec F S1x128 .f32) (sx : Vec F S64x128 .f32) (sf : Vec F S64x8 .f32) (cn : Vec F S64x1 .f32) : Vec F S64x128 .f32 :=
  k1_pay2 (k1_pay6 (View.ld b r10000x1)) (k1_pay7 (View.ld b r10000x1)) (k1_pay8 (View.ld cn r64x1) (View.ld sx r64x128) (top l) (View.ld sf r64x8) (bot l) (View.ld gb r1x128)) (k1_pay9 (View.ld x r10000x128) (top g)) (k1_pay10 (View.ld f r10000x8)) (bot g)
def sy1Add (x : Vec F S10000x128 .f32) (f : Vec F S10000x8 .bf16) (b : Vec F S10000x1 .i32) (g l : Vec F S136x128 .f32)
    (gb : Vec F S1x128 .f32) (sx : Vec F S64x128 .f32) (sf : Vec F S64x8 .f32) (cn : Vec F S64x1 .f32)
    (y : Vec F S64x128 .f32) : Vec F S64x128 .f32 :=
  k1_pay4 (k1_pay6 (View.ld b r10000x1)) (k1_pay7 (View.ld b r10000x1)) (k1_pay8 (View.ld cn r64x1) (View.ld sx r64x128) (top l) (View.ld sf r64x8) (bot l) (View.ld gb r1x128)) (k1_pay9 (View.ld x r10000x128) (top g)) (k1_pay10 (View.ld f r10000x8)) (bot g) (View.ld y r64x128)
/-- The block's Gram matrix of the hidden layer. -/
def my1 (x : Vec F S10000x128 .f32) (f : Vec F S10000x8 .bf16) (b : Vec F S10000x1 .i32) (g l : Vec F S136x128 .f32)
    (gb : Vec F S1x128 .f32) (sx : Vec F S64x128 .f32) (sf : Vec F S64x8 .f32) (cn : Vec F S64x1 .f32) : Vec F S128x128 .f32 :=
  k1_pay3 (k1_pay6 (View.ld b r10000x1)) (k1_pay7 (View.ld b r10000x1)) (k1_pay8 (View.ld cn r64x1) (View.ld sx r64x128) (top l) (View.ld sf r64x8) (bot l) (View.ld gb r1x128)) (k1_pay9 (View.ld x r10000x128) (top g)) (k1_pay10 (View.ld f r10000x8)) (bot g)
def my1Add (x : Vec F S10000x128 .f32) (f : Vec F S10000x8 .bf16) (b : Vec F S10000x1 .i32) (g l : Vec F S136x128 .f32)
    (gb : Vec F S1x128 .f32) (sx : Vec F S64x128 .f32) (sf : Vec F S64x8 .f32) (cn : Vec F S64x1 .f32)
    (y : Vec F S128x128 .f32) : Vec F S128x128 .f32 :=
  k1_pay5 (k1_pay6 (View.ld b r10000x1)) (k1_pay7 (View.ld b r10000x1)) (k1_pay8 (View.ld cn r64x1) (View.ld sx r64x128) (top l) (View.ld sf r64x8) (bot l) (View.ld gb r1x128)) (k1_pay9 (View.ld x r10000x128) (top g)) (k1_pay10 (View.ld f r10000x8)) (bot g) (View.ld y r128x128)

/-! ## Third kernel: the same, the second layer's weights and bias, the normalisation's weight and bias, and the
    sums of both earlier kernels -/

/-- The block's output rows. -/
def out2 (x : Vec F S10000x128 .f32) (f : Vec F S10000x8 .bf16) (b : Vec F S10000x1 .i32) (g l : Vec F S136x128 .f32)
    (gb : Vec F S1x128 .f32) (g2 l2 : Vec F S128x128 .f32) (g2b ga be : Vec F S1x128 .f32)
    (sx : Vec F S64x128 .f32) (sf : Vec F S64x8 .f32) (cn : Vec F S64x1 .f32) (sy : Vec F S64x128 .f32)
    (my : Vec F S128x128 .f32) : Vec F S10000x128 .f32 :=
  k2_pay1 (View.ld g2 r128x128) (k2_pay5 (View.ld cn r64x1) (View.ld sy r64x128) (View.ld g2b r1x128) (View.ld l2 r128x128))
    (k2_pay11 (k2_pay7 (View.ld cn r64x1) (View.ld sy r64x128) (View.ld g2 r128x128) (View.ld g2b r1x128) (View.ld l2 r128x128)) (k2_pay8 (View.ld g2 r128x128) (View.ld my r128x128)) (k2_pay9 (View.ld cn r64x1) (View.ld sy r64x128) (View.ld g2 r128x128) (View.ld g2b r1x128) (View.ld l2 r128x128)) (k2_pay10 (View.ld cn r64x1) (View.ld sy r64x128) (View.ld g2b r1x128) (View.ld l2 r128x128)) (View.ld ga r1x128))
    (k2_pay12 (k2_pay7 (View.ld cn r64x1) (View.ld sy r64x128) (View.ld g2 r128x128) (View.ld g2b r1x128) (View.ld l2 r128x128)) (k2_pay8 (View.ld g2 r128x128) (View.ld my r128x128)) (k2_pay9 (View.ld cn r64x1) (View.ld sy r64x128) (View.ld g2 r128x128) (View.ld g2b r1x128) (View.ld l2 r128x128)) (k2_pay10 (View.ld cn r64x1) (View.ld sy r64x128) (View.ld g2b r1x128) (View.ld l2 r128x128)) (View.ld ga r1x128) (View.ld be r1x128))
    (k2_pay13 (View.ld b r10000x1)) (k2_pay14 (View.ld b r10000x1)) (k2_pay15 (k2_pay3 (View.ld cn r64x1)) (View.ld sx r64x128) (top l) (View.ld sf r64x8) (bot l)) (k2_pay16 (View.ld gb r1x128)) (View.ld x r10000x128) (top g) (View.ld f r10000x8) (bot g) (View.ld x r10000x128)

section
variable {Val : EltTy → Type} {e : EltTy}
theorem ld_10000x128 (x : S10000x128.Idx → Val e) : View.ld x r10000x128 = x := View.ld_unit_lit _ _ (by decide)
theorem ld_10000x8 (x : S10000x8.Idx → Val e) : View.ld x r10000x8 = x := View.ld_unit_lit _ _ (by decide)
theorem ld_10000x1 (x : S10000x1.Idx → Val e) : View.ld x r10000x1 = x := View.ld_unit_lit _ _ (by decide)
theorem ld_128x128 (x : S128x128.Idx → Val e) : View.ld x r128x128 = x := View.ld_unit_lit _ _ (by decide)
theorem ld_1x128 (x : S1x128.Idx → Val e) : View.ld x r1x128 = x := View.ld_unit_lit _ _ (by decide)
theorem ld_128x8 (x : S128x8.Idx → Val e) : View.ld x r128x8 = x := View.ld_unit_lit _ _ (by decide)
theorem ld_1x8 (x : S1x8.Idx → Val e) : View.ld x r1x8 = x := View.ld_unit_lit _ _ (by decide)
theorem ld_64x128 (x : S64x128.Idx → Val e) : View.ld x r64x128 = x := View.ld_unit_lit _ _ (by decide)
theorem ld_64x8 (x : S64x8.Idx → Val e) : View.ld x r64x8 = x := View.ld_unit_lit _ _ (by decide)
theorem ld_64x1 (x : S64x1.Idx → Val e) : View.ld x r64x1 = x := View.ld_unit_lit _ _ (by decide)
end

/-! ## The same without the loads: a load of a whole buffer reads it -/

theorem fv0_eq (x : Vec F S10000x128 .f32) (w1 : Vec F S128x128 .f32) (b1 : Vec F S1x128 .f32) (w2 : Vec F S128x8 .f32) (b2 : Vec F S1x8 .f32) :
    fv0 x w1 b1 w2 b2 = k0_pay4 x w1 b1 w2 b2 := by
  unfold fv0
  simp only [ld_10000x128, ld_10000x8, ld_10000x1, ld_128x128, ld_1x128, ld_128x8, ld_1x8, ld_64x128, ld_64x8, ld_64x1]

theorem sx0_eq (x : Vec F S10000x128 .f32) (b : Vec F S10000x1 .i32) :
    sx0 x b = k0_pay6 x b := by
  unfold sx0
  simp only [ld_10000x128, ld_10000x8, ld_10000x1, ld_128x128, ld_1x128, ld_128x8, ld_1x8, ld_64x128, ld_64x8, ld_64x1]

theorem sx0Add_eq (x : Vec F S10000x128 .f32) (b : Vec F S10000x1 .i32) (y : Vec F S64x128 .f32) :
    sx0Add x b y =
  k0_pay1 (k0_pay6 x b) y := by
  unfold sx0Add
  simp only [ld_10000x128, ld_10000x8, ld_10000x1, ld_128x128, ld_1x128, ld_128x8, ld_1x8, ld_64x128, ld_64x8, ld_64x1]

theorem sf0_eq (x : Vec F S10000x128 .f32) (b : Vec F S10000x1 .i32) (w1 : Vec F S128x128 .f32) (b1 : Vec F S1x128 .f32) (w2 : Vec F S128x8 .f32) (b2 : Vec F S1x8 .f32) :
    sf0 x b w1 b1 w2 b2 = k0_pay7 x w1 b1 w2 b2 b := by
  unfold sf0
  simp only [ld_10000x128, ld_10000x8, ld_10000x1, ld_128x128, ld_1x128, ld_128x8, ld_1x8, ld_64x128, ld_64x8, ld_64x1]

theorem sf0Add_eq (x : Vec F S10000x128 .f32) (b : Vec F S10000x1 .i32) (w1 : Vec F S128x128 .f32) (b1 : Vec F S1x128 .f32) (w2 : Vec F S128x8 .f32) (b2 : Vec F S1x8 .f32) (y : Vec F S64x8 .f32) :
    sf0Add x b w1 b1 w2 b2 y =
  k0_pay2 (k0_pay7 x w1 b1 w2 b2 b) y := by
  unfold sf0Add
  simp only [ld_10000x128, ld_10000x8, ld_10000x1, ld_128x128, ld_1x128, ld_128x8, ld_1x8, ld_64x128, ld_64x8, ld_64x1]

theorem cn0_eq (b : Vec F S10000x1 .i32) :
    cn0 b = k0_pay8 b := by
  unfold cn0
  simp only [ld_10000x128, ld_10000x8, ld_10000x1, ld_128x128, ld_1x128, ld_128x8, ld_1x8, ld_64x128, ld_64x8, ld_64x1]

theorem cn0Add_eq (b : Vec F S10000x1 .i32) (y : Vec F S64x1 .f32) :
    cn0Add b y = k0_pay3 (k0_pay8 b) y := by
  unfold cn0Add
  simp only [ld_10000x128, ld_10000x8, ld_10000x1, ld_128x128, ld_1x128, ld_128x8, ld_1x8, ld_64x128, ld_64x8, ld_64x1]

theorem sy1_eq (x : Vec F S10000x128 .f32) (f : Vec F S10000x8 .bf16) (b : Vec F S10000x1 .i32) (g l : Vec F S136x128 .f32) (gb : Vec F S1x128 .f32) (sx : Vec F S64x128 .f32) (sf : Vec F S64x8 .f32) (cn : Vec F S64x1 .f32) :
    sy1 x f b g l gb sx sf cn =
  k1_pay2 (k1_pay6 b) (k1_pay7 b) (k1_pay8 cn sx (top l) sf (bot l) gb) (k1_pay9 x (top g)) (k1_pay10 f) (bot g) := by
  unfold sy1
  simp only [ld_10000x128, ld_10000x8, ld_10000x1, ld_128x128, ld_1x128, ld_128x8, ld_1x8, ld_64x128, ld_64x8, ld_64x1]

theorem sy1Add_eq (x : Vec F S10000x128 .f32) (f : Vec F S10000x8 .bf16) (b : Vec F S10000x1 .i32) (g l : Vec F S136x128 .f32) (gb : Vec F S1x128 .f32) (sx : Vec F S64x128 .f32) (sf : Vec F S64x8 .f32) (cn : Vec F S64x1 .f32) (y : Vec F S64x128 .f32) :
    sy1Add x f b g l gb sx sf cn y =
  k1_pay4 (k1_pay6 b) (k1_pay7 b) (k1_pay8 cn sx (top l) sf (bot l) gb) (k1_pay9 x (top g)) (k1_pay10 f) (bot g) y := by
  unfold sy1Add
  simp only [ld_10000x128, ld_10000x8, ld_10000x1, ld_128x128, ld_1x128, ld_128x8, ld_1x8, ld_64x128, ld_64x8, ld_64x1]

theorem my1_eq (x : Vec F S10000x128 .f32) (f : Vec F S10000x8 .bf16) (b : Vec F S10000x1 .i32) (g l : Vec F S136x128 .f32) (gb : Vec F S1x128 .f32) (sx : Vec F S64x128 .f32) (sf : Vec F S64x8 .f32) (cn : Vec F S64x1 .f32) :
    my1 x f b g l gb sx sf cn =
  k1_pay3 (k1_pay6 b) (k1_pay7 b) (k1_pay8 cn sx (top l) sf (bot l) gb) (k1_pay9 x (top g)) (k1_pay10 f) (bot g) := by
  unfold my1
  simp only [ld_10000x128, ld_10000x8, ld_10000x1, ld_128x128, ld_1x128, ld_128x8, ld_1x8, ld_64x128, ld_64x8, ld_64x1]

theorem my1Add_eq (x : Vec F S10000x128 .f32) (f : Vec F S10000x8 .bf16) (b : Vec F S10000x1 .i32) (g l : Vec F S136x128 .f32) (gb : Vec F S1x128 .f32) (sx : Vec F S64x128 .f32) (sf : Vec F S64x8 .f32) (cn : Vec F S64x1 .f32) (y : Vec F S128x128 .f32) :
    my1Add x f b g l gb sx sf cn y =
  k1_pay5 (k1_pay6 b) (k1_pay7 b) (k1_pay8 cn sx (top l) sf (bot l) gb) (k1_pay9 x (top g)) (k1_pay10 f) (bot g) y := by
  unfold my1Add
  simp only [ld_10000x128, ld_10000x8, ld_10000x1, ld_128x128, ld_1x128, ld_128x8, ld_1x8, ld_64x128, ld_64x8, ld_64x1]

theorem out2_eq (x : Vec F S10000x128 .f32) (f : Vec F S10000x8 .bf16) (b : Vec F S10000x1 .i32) (g l : Vec F S136x128 .f32) (gb : Vec F S1x128 .f32) (g2 l2 : Vec F S128x128 .f32) (g2b ga be : Vec F S1x128 .f32) (sx : Vec F S64x128 .f32) (sf : Vec F S64x8 .f32) (cn : Vec F S64x1 .f32) (sy : Vec F S64x128 .f32) (my : Vec F S128x128 .f32) :
    out2 x f b g l gb g2 l2 g2b ga be sx sf cn sy my =
  k2_pay1 g2 (k2_pay5 cn sy g2b l2)
    (k2_pay11 (k2_pay7 cn sy g2 g2b l2) (k2_pay8 g2 my) (k2_pay9 cn sy g2 g2b l2) (k2_pay10 cn sy g2b l2) ga)
    (k2_pay12 (k2_pay7 cn sy g2 g2b l2) (k2_pay8 g2 my) (k2_pay9 cn sy g2 g2b l2) (k2_pay10 cn sy g2b l2) ga be)
    (k2_pay13 b) (k2_pay14 b) (k2_pay15 (k2_pay3 cn) sx (top l) sf (bot l)) (k2_pay16 gb) x (top g) f (bot g) x := by
  unfold out2
  simp only [ld_10000x128, ld_10000x8, ld_10000x1, ld_128x128, ld_1x128, ld_128x8, ld_1x8, ld_64x128, ld_64x8, ld_64x1]

end Cert.KernelIdeal.Run

end
-- ==== Proof.KernelIdeal.Region0.lean ====
/- What one grid step of the first grid: the small network, the one-hot sums of the features and of the network's output, and the counts, leaves in its staging
   buffers, and the proof data of that region at whatever contents `V` it is entered from. -/
module

public import proofs.«01_k».proof.Proof.KernelIdeal.Blocks
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One step of the body -/

set_option maxHeartbeats 2000000 in
/-- At the first grid point the body stores this block's sums. -/
theorem body0_first (c : Dev nD) (E : Set ℕ) (i : grid0.Coords) (h1 : k0_cond1 i = 1#1) (h2 : ¬ k0_cond2 i = 1#1)
    (arg1 : Memref sig .tc .vmem S10000x128 .f32) (harg1 : arg1.IsWhole) (arg2 : Memref sig .tc .vmem S10000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x8 .f32) (harg5 : arg5.IsWhole) (arg6 : Memref sig .tc .vmem S1x8 .f32) (harg6 : arg6.IsWhole) (arg7 : Memref sig .tc .vmem S10000x8 .bf16) (harg7 : arg7.IsWhole) (arg8 : Memref sig .tc .vmem S64x128 .f32) (harg8 : arg8.IsWhole) (arg9 : Memref sig .tc .vmem S64x8 .f32) (harg9 : arg9.IsWhole) (arg10 : Memref sig .tc .vmem S64x1 .f32) (harg10 : arg10.IsWhole)
    (x0 : Vec F S10000x128 .f32) (x1 : Vec F S10000x1 .i32) (x2 : Vec F S128x128 .f32) (x3 : Vec F S1x128 .f32) (x4 : Vec F S128x8 .f32) (x5 : Vec F S1x8 .f32)  (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (fv0 x0 x2 x3 x4 x5)
        ∗ owns (c : Thread nD τ) arg8 fullShare (sx0 x0 x1)
        ∗ owns (c : Thread nD τ) arg9 fullShare (sf0 x0 x1 x2 x3 x4 x5)
        ∗ owns (c : Thread nD τ) arg10 fullShare (cn0 x1)) -∗ K ⟨⟩))
      ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K := by
  simp only [cc0__p1_body_eq_skeleton]; unfold cc0__p1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine whole_store _ _ _ ?_ _ _ ?_
    · decide
    · rfl
  isplitl [H7]
  · iexists _; isplitr
    swap; · iexact H7
    ipureintro
    refine whole_store _ _ _ ?_ _ _ ?_
    · decide
    · rfl
  isplitl [H8]
  · iexists _; isplitr
    swap; · iexact H8
    ipureintro
    refine whole_store _ _ _ ?_ _ _ ?_
    · decide
    · rfl
  iexists _; isplitr
  swap; · iexact H9
  ipureintro
  refine whole_store _ _ _ ?_ _ _ ?_
  · decide
  · rfl

set_option maxHeartbeats 2000000 in
/-- At a later grid point the body adds this block's sums to what the buffers hold. -/
theorem body0_later (c : Dev nD) (E : Set ℕ) (i : grid0.Coords) (h1 : ¬ k0_cond1 i = 1#1) (h2 : k0_cond2 i = 1#1)
    (arg1 : Memref sig .tc .vmem S10000x128 .f32) (harg1 : arg1.IsWhole) (arg2 : Memref sig .tc .vmem S10000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x8 .f32) (harg5 : arg5.IsWhole) (arg6 : Memref sig .tc .vmem S1x8 .f32) (harg6 : arg6.IsWhole) (arg7 : Memref sig .tc .vmem S10000x8 .bf16) (harg7 : arg7.IsWhole) (arg8 : Memref sig .tc .vmem S64x128 .f32) (harg8 : arg8.IsWhole) (arg9 : Memref sig .tc .vmem S64x8 .f32) (harg9 : arg9.IsWhole) (arg10 : Memref sig .tc .vmem S64x1 .f32) (harg10 : arg10.IsWhole)
    (x0 : Vec F S10000x128 .f32) (x1 : Vec F S10000x1 .i32) (x2 : Vec F S128x128 .f32) (x3 : Vec F S1x128 .f32) (x4 : Vec F S128x8 .f32) (x5 : Vec F S1x8 .f32) (y0 : Vec F S64x128 .f32) (y1 : Vec F S64x8 .f32) (y2 : Vec F S64x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ owns (c : Thread nD τ) arg8 fullShare y0
        ∗ owns (c : Thread nD τ) arg9 fullShare y1
        ∗ owns (c : Thread nD τ) arg10 fullShare y2
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (fv0 x0 x2 x3 x4 x5)
        ∗ owns (c : Thread nD τ) arg8 fullShare (sx0Add x0 x1 y0)
        ∗ owns (c : Thread nD τ) arg9 fullShare (sf0Add x0 x1 x2 x3 x4 x5 y1)
        ∗ owns (c : Thread nD τ) arg10 fullShare (cn0Add x1 y2)) -∗ K ⟨⟩))
      ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K := by
  simp only [cc0__p1_body_eq_skeleton]; unfold cc0__p1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine whole_store _ _ _ ?_ _ _ ?_
    · decide
    · rfl
  isplitl [H7]
  · iexists _; isplitr
    swap; · iexact H7
    ipureintro
    refine whole_store _ _ _ ?_ _ _ ?_
    · decide
    · rfl
  isplitl [H8]
  · iexists _; isplitr
    swap; · iexact H8
    ipureintro
    refine whole_store _ _ _ ?_ _ _ ?_
    · decide
    · rfl
  iexists _; isplitr
  swap; · iexact H9
  ipureintro
  refine whole_store _ _ _ ?_ _ _ ?_
  · decide
  · rfl

/-! ## The proof data -/

section Data
variable (V : (c : Dev nD) → (b : Ref sig .tc) → Buf (Elt F) ((c : Thread nD τ).loc b))

/-- The block of array `w` that grid point `t` works on. -/
def iblk0 (c : Dev nD) (w : Fin cfg0.W) (t : Fin cfg0.N) : ((cfg0.win w).xblock (cfg0.grid.coords t)).Idx → Elt F (cfg0.win w).elt :=
  (((cfg0.win w).blk t).view.read (Elt F) (V c (Pipeline.arrRef spec0 w)))

/-- The running sums after grid point `n`. -/
def acc0 (c : Dev nD) : (n : ℕ) → n < cfg0.N → Vec F S64x128 .f32 × Vec F S64x8 .f32 × Vec F S64x1 .f32
  | 0, h => (sx0 (iblk0 V c 0 ⟨0, h⟩) (iblk0 V c 1 ⟨0, h⟩), sf0 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩), cn0 (iblk0 V c 1 ⟨0, h⟩))
  | n + 1, h => (sx0Add (iblk0 V c 0 ⟨n + 1, h⟩) (iblk0 V c 1 ⟨n + 1, h⟩) (acc0 c n (Nat.lt_of_succ_lt h)).1, sf0Add (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (acc0 c n (Nat.lt_of_succ_lt h)).2.1, cn0Add (iblk0 V c 1 ⟨n + 1, h⟩) (acc0 c n (Nat.lt_of_succ_lt h)).2.2)

/-- The proof data: each input buffer keeps its block; each accumulator ends at the running sum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => fv0 (iblk0 V c 0 t) (iblk0 V c 2 t) (iblk0 V c 3 t) (iblk0 V c 4 t) (iblk0 V c 5 t)
    | ⟨7, _⟩ => (acc0 V c t.val t.isLt).1
    | ⟨8, _⟩ => (acc0 V c t.val t.isLt).2.1
    | ⟨9, _⟩ => (acc0 V c t.val t.isLt).2.2
    | ⟨_ + 10, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = fv0 (iblk0 V c 0 t) (iblk0 V c 2 t) (iblk0 V c 3 t) (iblk0 V c 4 t) (iblk0 V c 5 t) := by dsimp only [dat0]
theorem after0_7 (c : Dev nD) (t : Fin cfg0.N) : (dat0 V c).after 7 t = (acc0 V c t.val t.isLt).1 := by dsimp only [dat0]
theorem after0_8 (c : Dev nD) (t : Fin cfg0.N) : (dat0 V c).after 8 t = (acc0 V c t.val t.isLt).2.1 := by dsimp only [dat0]
theorem after0_9 (c : Dev nD) (t : Fin cfg0.N) : (dat0 V c).after 9 t = (acc0 V c t.val t.isLt).2.2 := by dsimp only [dat0]

/-- An input's buffer holds its block when the body starts. -/
theorem before0_in (c : Dev nD) (w : Fin cfg0.W) (hw : (cfg0.win w).isOut = false) (hidle : ∀ i, cfg0.idle w i = false)
    (hclip : ∀ i a, (cfg0.win w).clip i a = none)
    (hafter : ∀ t, (cfg0.win w).cut (cfg0.grid.coords t) ((dat0 V c).after w t) = iblk0 V c w t) (t : Fin cfg0.N) (d) :
    (dat0 V c).before w t d = (dat0 V c).fetched w t d :=
  (dat0 V c).before_in_eq_fetched w hw hidle (fun t t' _ => by funext a; rw [hclip, hclip])
    (fun t => by rw [hafter]; unfold Dat.blockOf iblk0; rw [A_eq0]) t d

theorem before0_0 (c : Dev nD) (t : Fin cfg0.N) (d) : (dat0 V c).before 0 t d = iblk0 V c 0 t :=
  (before0_in V c 0 rfl (fun _ => rfl) (fun _ _ => rfl) (fun t => by rw [after0_0]) t d).trans
    (by unfold Dat.fetched Dat.blockOf iblk0; rw [A_eq0]; try rfl)
theorem before0_1 (c : Dev nD) (t : Fin cfg0.N) (d) : (dat0 V c).before 1 t d = iblk0 V c 1 t :=
  (before0_in V c 1 rfl (fun _ => rfl) (fun _ _ => rfl) (fun t => by rw [after0_1]) t d).trans
    (by unfold Dat.fetched Dat.blockOf iblk0; rw [A_eq0]; try rfl)
theorem before0_2 (c : Dev nD) (t : Fin cfg0.N) (d) : (dat0 V c).before 2 t d = iblk0 V c 2 t :=
  (before0_in V c 2 rfl (fun _ => rfl) (fun _ _ => rfl) (fun t => by rw [after0_2]) t d).trans
    (by unfold Dat.fetched Dat.blockOf iblk0; rw [A_eq0]; try rfl)
theorem before0_3 (c : Dev nD) (t : Fin cfg0.N) (d) : (dat0 V c).before 3 t d = iblk0 V c 3 t :=
  (before0_in V c 3 rfl (fun _ => rfl) (fun _ _ => rfl) (fun t => by rw [after0_3]) t d).trans
    (by unfold Dat.fetched Dat.blockOf iblk0; rw [A_eq0]; try rfl)
theorem before0_4 (c : Dev nD) (t : Fin cfg0.N) (d) : (dat0 V c).before 4 t d = iblk0 V c 4 t :=
  (before0_in V c 4 rfl (fun _ => rfl) (fun _ _ => rfl) (fun t => by rw [after0_4]) t d).trans
    (by unfold Dat.fetched Dat.blockOf iblk0; rw [A_eq0]; try rfl)
theorem before0_5 (c : Dev nD) (t : Fin cfg0.N) (d) : (dat0 V c).before 5 t d = iblk0 V c 5 t :=
  (before0_in V c 5 rfl (fun _ => rfl) (fun _ _ => rfl) (fun t => by rw [after0_5]) t d).trans
    (by unfold Dat.fetched Dat.blockOf iblk0; rw [A_eq0]; try rfl)

/-- Every window is live at every grid point. -/
theorem live0 : ∀ (w : Fin cfg0.W) (t : Fin cfg0.N), cfg0.idle w (grid0.coords t) = false := by decide +kernel
/-- The body's two conditions are "the first grid point" and "a later grid point". -/
theorem conds0 : ∀ t : Fin cfg0.N, (t.val = 0 → k0_cond1 (grid0.coords t) = 1#1 ∧ ¬ k0_cond2 (grid0.coords t) = 1#1)
    ∧ (t.val ≠ 0 → ¬ k0_cond1 (grid0.coords t) = 1#1 ∧ k0_cond2 (grid0.coords t) = 1#1) := by decide +kernel
/-- An accumulator's buffer is never handed back before the last grid point. -/
theorem noFlush0 : ∀ (w : Fin cfg0.W) (t : Fin cfg0.N), 7 ≤ w.val → t.val < 9 → (cfg0.win w).flush t = false := by decide +kernel
/-- So an accumulator's buffer holds, at a later grid point, what the point before left. -/
theorem before0_acc (c : Dev nD) (w : Fin cfg0.W) (hw : 7 ≤ w.val) (ho : (cfg0.win w).isOut = true)
    (hclip : ∀ i a, (cfg0.win w).clip i a = none) (t : Fin cfg0.N) (h : t.val ≠ 0) (d) :
    (dat0 V c).before w t d = (dat0 V c).after w ⟨t.val - 1, by omega⟩ := by
  have hN : t.val < 10 := lt_of_lt_of_eq t.isLt (show cfg0.N = 10 from N_0)
  rw [Dat.before_out_traj _ w ho hclip (fun t' _ hi _ => absurd hi (by rw [live0]; exact Bool.false_ne_true)) t.val t rfl d,
    if_neg]
  obtain ⟨n, hn⟩ : ∃ n, t.val = n + 1 := ⟨t.val - 1, by omega⟩
  rw [hn, Pipeline.Cfg.fresh_succ (h := by omega)]
  rw [live0, noFlush0 w ⟨n, _⟩ hw (by show n < 9; omega)]; exact Bool.false_ne_true

theorem acc0_first (c : Dev nD) (t : Fin cfg0.N) (h : t.val = 0) : acc0 V c t.val t.isLt = (sx0 (iblk0 V c 0 t) (iblk0 V c 1 t), sf0 (iblk0 V c 0 t) (iblk0 V c 1 t) (iblk0 V c 2 t) (iblk0 V c 3 t) (iblk0 V c 4 t) (iblk0 V c 5 t), cn0 (iblk0 V c 1 t)) := by
  obtain ⟨n, hn⟩ := t; subst h; rfl
theorem acc0_later (c : Dev nD) (t : Fin cfg0.N) (h : t.val ≠ 0) : acc0 V c t.val t.isLt
    = (sx0Add (iblk0 V c 0 t) (iblk0 V c 1 t) (acc0 V c (t.val - 1) (by omega)).1, sf0Add (iblk0 V c 0 t) (iblk0 V c 1 t) (iblk0 V c 2 t) (iblk0 V c 3 t) (iblk0 V c 4 t) (iblk0 V c 5 t) (acc0 V c (t.val - 1) (by omega)).2.1, cn0Add (iblk0 V c 1 t) (acc0 V c (t.val - 1) (by omega)).2.2) := by
  obtain ⟨n, hn⟩ := t
  match n, hn, h with
  | n + 1, _, _ => rfl

/-- What the body is given at a grid point. -/
def pre0 (c : Dev nD) (t : Fin cfg0.N) : sProp 𝕄 :=
  iprop((dat0 V c).Φ t.castSucc
    ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))
/-- What it gives back. -/
def post0 (c : Dev nD) (t : Fin cfg0.N) : sProp 𝕄 :=
  iprop((dat0 V c).Φ t.succ
    ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any grid point. -/
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases h : t.val = 0
  · rw [show acc0 V c t.val t.isLt = (sx0 (iblk0 V c 0 t) (iblk0 V c 1 t), sf0 (iblk0 V c 0 t) (iblk0 V c 1 t) (iblk0 V c 2 t) (iblk0 V c 3 t) (iblk0 V c 4 t) (iblk0 V c 5 t), cn0 (iblk0 V c 1 t)) from acc0_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body0_first c Set.univ (grid0.coords t) ((conds0 t).1 h).1 ((conds0 t).1 h).2 _ _ _ _ _ _ _ _ _ _ _ _ _ _ _ _ _ _ _ _ (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show acc0 V c t.val t.isLt = (sx0Add (iblk0 V c 0 t) (iblk0 V c 1 t) (acc0 V c (t.val - 1) (by omega)).1, sf0Add (iblk0 V c 0 t) (iblk0 V c 1 t) (iblk0 V c 2 t) (iblk0 V c 3 t) (iblk0 V c 4 t) (iblk0 V c 5 t) (acc0 V c (t.val - 1) (by omega)).2.1, cn0Add (iblk0 V c 1 t) (acc0 V c (t.val - 1) (by omega)).2.2) from acc0_later V c t h]
    simp only [before0_acc V c 7 (by decide) rfl (fun _ _ => rfl) t h, before0_acc V c 8 (by decide) rfl (fun _ _ => rfl) t h, before0_acc V c 9 (by decide) rfl (fun _ _ => rfl) t h, after0_7, after0_8, after0_9]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body0_later c Set.univ (grid0.coords t) ((conds0 t).2 h).1 ((conds0 t).2 h).2 _ _ _ _ _ _ _ _ _ _ _ _ _ _ _ _ _ _ _ _ (iblk0 V c 0 t) (iblk0 V c 1 t) (iblk0 V c 2 t) (iblk0 V c 3 t) (iblk0 V c 4 t) (iblk0 V c 5 t) (acc0 V c (t.val - 1) (by omega)).1 (acc0 V c (t.val - 1) (by omega)).2.1 (acc0 V c (t.val - 1) (by omega)).2.2 _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- Every buffer is one the body leaves its named contents in. -/
theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [show cfg0.idle w (cfg0.grid.coords t) = false from live0 w t]

set_option maxHeartbeats 1000000 in
/-- The body obligation of this region, at every grid point. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (step0 V c t) rfl .rfl fun _ => (show post0 V c t ⊢ iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t) by
    simp only [leaves0]; exact .rfl)

end Data

end Cert.KernelIdeal.Run

end
-- ==== Proof.KernelIdeal.Region1.lean ====
/- What one grid step of the second grid: the one-hot sums of the hidden layer and its Gram matrix, leaves in its staging
   buffers, and the proof data of that region at whatever contents `V` it is entered from. -/
module

public import proofs.«01_k».proof.Proof.KernelIdeal.Blocks
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One step of the body -/

set_option maxHeartbeats 2000000 in
/-- At the first grid point the body stores this block's sums. -/
theorem body1_first (c : Dev nD) (E : Set ℕ) (i : grid1.Coords) (h1 : k1_cond1 i = 1#1) (h2 : ¬ k1_cond2 i = 1#1)
    (arg1 : Memref sig .tc .vmem S10000x128 .f32) (harg1 : arg1.IsWhole) (arg2 : Memref sig .tc .vmem S10000x8 .bf16) (harg2 : arg2.IsWhole) (arg3 : Memref sig .tc .vmem S10000x1 .i32) (harg3 : arg3.IsWhole) (arg4 : Memref sig .tc .vmem S136x128 .f32) (harg4 : arg4.IsWhole) (arg5 : Memref sig .tc .vmem S136x128 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S64x8 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S128x128 .f32) (harg11 : arg11.IsWhole)
    (x0 : Vec F S10000x128 .f32) (x1 : Vec F S10000x8 .bf16) (x2 : Vec F S10000x1 .i32) (x3 : Vec F S136x128 .f32) (x4 : Vec F S136x128 .f32) (x5 : Vec F S1x128 .f32) (x6 : Vec F S64x128 .f32) (x7 : Vec F S64x8 .f32) (x8 : Vec F S64x1 .f32)  (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare (sy1 x0 x1 x2 x3 x4 x5 x6 x7 x8)
        ∗ owns (c : Thread nD τ) arg11 fullShare (my1 x0 x1 x2 x3 x4 x5 x6 x7 x8)) -∗ K ⟨⟩))
      ⊢ wp frame (wpE (defs₀ (F := F)) Variants.none c none) E (cc1__p2_body i arg1 harg1 arg2 harg2 arg3 harg3 arg4 harg4 arg5 harg5 arg6 harg6 arg7 harg7 arg8 harg8 arg9 harg9 arg10 harg10 arg11 harg11) K := by
  simp only [cc1__p2_body_eq_skeleton]; unfold cc1__p2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine whole_store _ _ _ ?_ _ _ ?_
    · decide
    · rfl
  iexists _; isplitr
  swap; · iexact H10
  ipureintro
  refine whole_store _ _ _ ?_ _ _ ?_
  · decide
  · rfl

set_option maxHeartbeats 2000000 in
/-- At a later grid point the body adds this block's sums to what the buffers hold. -/
theorem body1_later (c : Dev nD) (E : Set ℕ) (i : grid1.Coords) (h1 : ¬ k1_cond1 i = 1#1) (h2 : k1_cond2 i = 1#1)
    (arg1 : Memref sig .tc .vmem S10000x128 .f32) (harg1 : arg1.IsWhole) (arg2 : Memref sig .tc .vmem S10000x8 .bf16) (harg2 : arg2.IsWhole) (arg3 : Memref sig .tc .vmem S10000x1 .i32) (harg3 : arg3.IsWhole) (arg4 : Memref sig .tc .vmem S136x128 .f32) (harg4 : arg4.IsWhole) (arg5 : Memref sig .tc .vmem S136x128 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S64x8 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S128x128 .f32) (harg11 : arg11.IsWhole)
    (x0 : Vec F S10000x128 .f32) (x1 : Vec F S10000x8 .bf16) (x2 : Vec F S10000x1 .i32) (x3 : Vec F S136x128 .f32) (x4 : Vec F S136x128 .f32) (x5 : Vec F S1x128 .f32) (x6 : Vec F S64x128 .f32) (x7 : Vec F S64x8 .f32) (x8 : Vec F S64x1 .f32) (y0 : Vec F S64x128 .f32) (y1 : Vec F S128x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare y0
        ∗ owns (c : Thread nD τ) arg11 fullShare y1
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare (sy1Add x0 x1 x2 x3 x4 x5 x6 x7 x8 y0)
        ∗ owns (c : Thread nD τ) arg11 fullShare (my1Add x0 x1 x2 x3 x4 x5 x6 x7 x8 y1)) -∗ K ⟨⟩))
      ⊢ wp frame (wpE (defs₀ (F := F)) Variants.none c none) E (cc1__p2_body i arg1 harg1 arg2 harg2 arg3 harg3 arg4 harg4 arg5 harg5 arg6 harg6 arg7 harg7 arg8 harg8 arg9 harg9 arg10 harg10 arg11 harg11) K := by
  simp only [cc1__p2_body_eq_skeleton]; unfold cc1__p2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine whole_store _ _ _ ?_ _ _ ?_
    · decide
    · rfl
  iexists _; isplitr
  swap; · iexact H10
  ipureintro
  refine whole_store _ _ _ ?_ _ _ ?_
  · decide
  · rfl

/-! ## The proof data -/

section Data
variable (V : (c : Dev nD) → (b : Ref sig .tc) → Buf (Elt F) ((c : Thread nD τ).loc b))

/-- The block of array `w` that grid point `t` works on. -/
def iblk1 (c : Dev nD) (w : Fin cfg1.W) (t : Fin cfg1.N) : ((cfg1.win w).xblock (cfg1.grid.coords t)).Idx → Elt F (cfg1.win w).elt :=
  (((cfg1.win w).blk t).view.read (Elt F) (V c (Pipeline.arrRef spec1 w)))

/-- The running sums after grid point `n`. -/
def acc1 (c : Dev nD) : (n : ℕ) → n < cfg1.N → Vec F S64x128 .f32 × Vec F S128x128 .f32
  | 0, h => (sy1 (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩), my1 (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩))
  | n + 1, h => (sy1Add (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (acc1 c n (Nat.lt_of_succ_lt h)).1, my1Add (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (acc1 c n (Nat.lt_of_succ_lt h)).2)

/-- The proof data: each input buffer keeps its block; each accumulator ends at the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (acc1 V c t.val t.isLt).1
    | ⟨10, _⟩ => (acc1 V c t.val t.isLt).2
    | ⟨_ + 11, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (acc1 V c t.val t.isLt).1 := by dsimp only [dat1]
theorem after1_10 (c : Dev nD) (t : Fin cfg1.N) : (dat1 V c).after 10 t = (acc1 V c t.val t.isLt).2 := by dsimp only [dat1]

/-- An input's buffer holds its block when the body starts. -/
theorem before1_in (c : Dev nD) (w : Fin cfg1.W) (hw : (cfg1.win w).isOut = false) (hidle : ∀ i, cfg1.idle w i = false)
    (hclip : ∀ i a, (cfg1.win w).clip i a = none)
    (hafter : ∀ t, (cfg1.win w).cut (cfg1.grid.coords t) ((dat1 V c).after w t) = iblk1 V c w t) (t : Fin cfg1.N) (d) :
    (dat1 V c).before w t d = (dat1 V c).fetched w t d :=
  (dat1 V c).before_in_eq_fetched w hw hidle (fun t t' _ => by funext a; rw [hclip, hclip])
    (fun t => by rw [hafter]; unfold Dat.blockOf iblk1; rw [A_eq1]) t d

theorem before1_0 (c : Dev nD) (t : Fin cfg1.N) (d) : (dat1 V c).before 0 t d = iblk1 V c 0 t :=
  (before1_in V c 0 rfl (fun _ => rfl) (fun _ _ => rfl) (fun t => by rw [after1_0]) t d).trans
    (by unfold Dat.fetched Dat.blockOf iblk1; rw [A_eq1]; try rfl)
theorem before1_1 (c : Dev nD) (t : Fin cfg1.N) (d) : (dat1 V c).before 1 t d = iblk1 V c 1 t :=
  (before1_in V c 1 rfl (fun _ => rfl) (fun _ _ => rfl) (fun t => by rw [after1_1]) t d).trans
    (by unfold Dat.fetched Dat.blockOf iblk1; rw [A_eq1]; try rfl)
theorem before1_2 (c : Dev nD) (t : Fin cfg1.N) (d) : (dat1 V c).before 2 t d = iblk1 V c 2 t :=
  (before1_in V c 2 rfl (fun _ => rfl) (fun _ _ => rfl) (fun t => by rw [after1_2]) t d).trans
    (by unfold Dat.fetched Dat.blockOf iblk1; rw [A_eq1]; try rfl)
theorem before1_3 (c : Dev nD) (t : Fin cfg1.N) (d) : (dat1 V c).before 3 t d = iblk1 V c 3 t :=
  (before1_in V c 3 rfl (fun _ => rfl) (fun _ _ => rfl) (fun t => by rw [after1_3]) t d).trans
    (by unfold Dat.fetched Dat.blockOf iblk1; rw [A_eq1]; try rfl)
theorem before1_4 (c : Dev nD) (t : Fin cfg1.N) (d) : (dat1 V c).before 4 t d = iblk1 V c 4 t :=
  (before1_in V c 4 rfl (fun _ => rfl) (fun _ _ => rfl) (fun t => by rw [after1_4]) t d).trans
    (by unfold Dat.fetched Dat.blockOf iblk1; rw [A_eq1]; try rfl)
theorem before1_5 (c : Dev nD) (t : Fin cfg1.N) (d) : (dat1 V c).before 5 t d = iblk1 V c 5 t :=
  (before1_in V c 5 rfl (fun _ => rfl) (fun _ _ => rfl) (fun t => by rw [after1_5]) t d).trans
    (by unfold Dat.fetched Dat.blockOf iblk1; rw [A_eq1]; try rfl)
theorem before1_6 (c : Dev nD) (t : Fin cfg1.N) (d) : (dat1 V c).before 6 t d = iblk1 V c 6 t :=
  (before1_in V c 6 rfl (fun _ => rfl) (fun _ _ => rfl) (fun t => by rw [after1_6]) t d).trans
    (by unfold Dat.fetched Dat.blockOf iblk1; rw [A_eq1]; try rfl)
theorem before1_7 (c : Dev nD) (t : Fin cfg1.N) (d) : (dat1 V c).before 7 t d = iblk1 V c 7 t :=
  (before1_in V c 7 rfl (fun _ => rfl) (fun _ _ => rfl) (fun t => by rw [after1_7]) t d).trans
    (by unfold Dat.fetched Dat.blockOf iblk1; rw [A_eq1]; try rfl)
theorem before1_8 (c : Dev nD) (t : Fin cfg1.N) (d) : (dat1 V c).before 8 t d = iblk1 V c 8 t :=
  (before1_in V c 8 rfl (fun _ => rfl) (fun _ _ => rfl) (fun t => by rw [after1_8]) t d).trans
    (by unfold Dat.fetched Dat.blockOf iblk1; rw [A_eq1]; try rfl)

/-- Every window is live at every grid point. -/
theorem live1 : ∀ (w : Fin cfg1.W) (t : Fin cfg1.N), cfg1.idle w (grid1.coords t) = false := by decide +kernel
/-- The body's two conditions are "the first grid point" and "a later grid point". -/
theorem conds1 : ∀ t : Fin cfg1.N, (t.val = 0 → k1_cond1 (grid1.coords t) = 1#1 ∧ ¬ k1_cond2 (grid1.coords t) = 1#1)
    ∧ (t.val ≠ 0 → ¬ k1_cond1 (grid1.coords t) = 1#1 ∧ k1_cond2 (grid1.coords t) = 1#1) := by decide +kernel
/-- An accumulator's buffer is never handed back before the last grid point. -/
theorem noFlush1 : ∀ (w : Fin cfg1.W) (t : Fin cfg1.N), 9 ≤ w.val → t.val < 9 → (cfg1.win w).flush t = false := by decide +kernel
/-- So an accumulator's buffer holds, at a later grid point, what the point before left. -/
theorem before1_acc (c : Dev nD) (w : Fin cfg1.W) (hw : 9 ≤ w.val) (ho : (cfg1.win w).isOut = true)
    (hclip : ∀ i a, (cfg1.win w).clip i a = none) (t : Fin cfg1.N) (h : t.val ≠ 0) (d) :
    (dat1 V c).before w t d = (dat1 V c).after w ⟨t.val - 1, by omega⟩ := by
  have hN : t.val < 10 := lt_of_lt_of_eq t.isLt (show cfg1.N = 10 from N_1)
  rw [Dat.before_out_traj _ w ho hclip (fun t' _ hi _ => absurd hi (by rw [live1]; exact Bool.false_ne_true)) t.val t rfl d,
    if_neg]
  obtain ⟨n, hn⟩ : ∃ n, t.val = n + 1 := ⟨t.val - 1, by omega⟩
  rw [hn, Pipeline.Cfg.fresh_succ (h := by omega)]
  rw [live1, noFlush1 w ⟨n, _⟩ hw (by show n < 9; omega)]; exact Bool.false_ne_true

theorem acc1_first (c : Dev nD) (t : Fin cfg1.N) (h : t.val = 0) : acc1 V c t.val t.isLt = (sy1 (iblk1 V c 0 t) (iblk1 V c 1 t) (iblk1 V c 2 t) (iblk1 V c 3 t) (iblk1 V c 4 t) (iblk1 V c 5 t) (iblk1 V c 6 t) (iblk1 V c 7 t) (iblk1 V c 8 t), my1 (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t; subst h; rfl
theorem acc1_later (c : Dev nD) (t : Fin cfg1.N) (h : t.val ≠ 0) : acc1 V c t.val t.isLt
    = (sy1Add (iblk1 V c 0 t) (iblk1 V c 1 t) (iblk1 V c 2 t) (iblk1 V c 3 t) (iblk1 V c 4 t) (iblk1 V c 5 t) (iblk1 V c 6 t) (iblk1 V c 7 t) (iblk1 V c 8 t) (acc1 V c (t.val - 1) (by omega)).1, my1Add (iblk1 V c 0 t) (iblk1 V c 1 t) (iblk1 V c 2 t) (iblk1 V c 3 t) (iblk1 V c 4 t) (iblk1 V c 5 t) (iblk1 V c 6 t) (iblk1 V c 7 t) (iblk1 V c 8 t) (acc1 V c (t.val - 1) (by omega)).2) := by
  obtain ⟨n, hn⟩ := t
  match n, hn, h with
  | n + 1, _, _ => rfl

/-- What the body is given at a grid point. -/
def pre1 (c : Dev nD) (t : Fin cfg1.N) : sProp 𝕄 :=
  iprop((dat1 V c).Φ t.castSucc
    ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))
/-- What it gives back. -/
def post1 (c : Dev nD) (t : Fin cfg1.N) : sProp 𝕄 :=
  iprop((dat1 V c).Φ t.succ
    ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any grid point. -/
theorem step1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  by_cases h : t.val = 0
  · rw [show acc1 V c t.val t.isLt = (sy1 (iblk1 V c 0 t) (iblk1 V c 1 t) (iblk1 V c 2 t) (iblk1 V c 3 t) (iblk1 V c 4 t) (iblk1 V c 5 t) (iblk1 V c 6 t) (iblk1 V c 7 t) (iblk1 V c 8 t), my1 (iblk1 V c 0 t) (iblk1 V c 1 t) (iblk1 V c 2 t) (iblk1 V c 3 t) (iblk1 V c 4 t) (iblk1 V c 5 t) (iblk1 V c 6 t) (iblk1 V c 7 t) (iblk1 V c 8 t)) from acc1_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body1_first c Set.univ (grid1.coords t) ((conds1 t).1 h).1 ((conds1 t).1 h).2 _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show acc1 V c t.val t.isLt = (sy1Add (iblk1 V c 0 t) (iblk1 V c 1 t) (iblk1 V c 2 t) (iblk1 V c 3 t) (iblk1 V c 4 t) (iblk1 V c 5 t) (iblk1 V c 6 t) (iblk1 V c 7 t) (iblk1 V c 8 t) (acc1 V c (t.val - 1) (by omega)).1, my1Add (iblk1 V c 0 t) (iblk1 V c 1 t) (iblk1 V c 2 t) (iblk1 V c 3 t) (iblk1 V c 4 t) (iblk1 V c 5 t) (iblk1 V c 6 t) (iblk1 V c 7 t) (iblk1 V c 8 t) (acc1 V c (t.val - 1) (by omega)).2) from acc1_later V c t h]
    simp only [before1_acc V c 9 (by decide) rfl (fun _ _ => rfl) t h, before1_acc V c 10 (by decide) rfl (fun _ _ => rfl) t h, after1_9, after1_10]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body1_later c Set.univ (grid1.coords t) ((conds1 t).2 h).1 ((conds1 t).2 h).2 _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (acc1 V c (t.val - 1) (by omega)).1 (acc1 V c (t.val - 1) (by omega)).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- Every buffer is one the body leaves its named contents in. -/
theorem leaves1 (c : Dev nD) (w : Fin cfg1.W) (t : Fin cfg1.N) :
    (dat1 V c).leavesExact w t = owns (c : Thread nD τ) ((cfg1.win w).stage (cfg1.slots t w)) fullShare ((dat1 V c).after w t) := by
  unfold Dat.leavesExact; rw [show cfg1.idle w (cfg1.grid.coords t) = false from live1 w t]

set_option maxHeartbeats 1000000 in
/-- The body obligation of this region, at every grid point. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (step1 V c t) rfl .rfl fun _ => (show post1 V c t ⊢ iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t ∗ (dat1 V c).leavesExact 10 t) by
    simp only [leaves1]; exact .rfl)

end Data

end Cert.KernelIdeal.Run

end
-- ==== Proof.KernelIdeal.Region2.lean ====
/- What one grid step of the third grid: the output rows from the hidden layer, the per-segment constants and the normalisation, leaves in its staging
   buffers, and the proof data of that region at whatever contents `V` it is entered from. -/
module

public import proofs.«01_k».proof.Proof.KernelIdeal.Blocks
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One step of the body -/

set_option maxHeartbeats 2000000 in
/-- The body reads its input blocks and stores one block of rows. -/
theorem body2_step (c : Dev nD) (E : Set ℕ) (i : grid2.Coords)
    (arg1 : Memref sig .tc .vmem S10000x128 .f32) (harg1 : arg1.IsWhole) (arg2 : Memref sig .tc .vmem S10000x8 .bf16) (harg2 : arg2.IsWhole) (arg3 : Memref sig .tc .vmem S10000x1 .i32) (harg3 : arg3.IsWhole) (arg4 : Memref sig .tc .vmem S136x128 .f32) (harg4 : arg4.IsWhole) (arg5 : Memref sig .tc .vmem S136x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S64x8 .f32) (harg13 : arg13.IsWhole) (arg14 : Memref sig .tc .vmem S64x1 .f32) (harg14 : arg14.IsWhole) (arg15 : Memref sig .tc .vmem S64x128 .f32) (harg15 : arg15.IsWhole) (arg16 : Memref sig .tc .vmem S128x128 .f32) (harg16 : arg16.IsWhole) (arg17 : Memref sig .tc .vmem S10000x128 .f32) (harg17 : arg17.IsWhole)
    (x0 : Vec F S10000x128 .f32) (x1 : Vec F S10000x8 .bf16) (x2 : Vec F S10000x1 .i32) (x3 : Vec F S136x128 .f32) (x4 : Vec F S136x128 .f32) (x5 : Vec F S1x128 .f32) (x6 : Vec F S128x128 .f32) (x7 : Vec F S128x128 .f32) (x8 : Vec F S1x128 .f32) (x9 : Vec F S1x128 .f32) (x10 : Vec F S1x128 .f32) (x11 : Vec F S64x128 .f32) (x12 : Vec F S64x8 .f32) (x13 : Vec F S64x1 .f32) (x14 : Vec F S64x128 .f32) (x15 : Vec F S128x128 .f32)  (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ (∃ d, owns (c : Thread nD τ) arg17 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare (out2 x0 x1 x2 x3 x4 x5 x6 x7 x8 x9 x10 x11 x12 x13 x14 x15)) -∗ K ⟨⟩))
      ⊢ wp frame (wpE (defs₀ (F := F)) Variants.none c none) E (cc2__p3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__p3_body_eq_skeleton]; unfold cc2__p3_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  refine whole_store _ _ _ ?_ _ _ ?_
  · decide
  · rfl

/-! ## The proof data -/

section Data
variable (V : (c : Dev nD) → (b : Ref sig .tc) → Buf (Elt F) ((c : Thread nD τ).loc b))

/-- The block of array `w` that grid point `t` works on. -/
def iblk2 (c : Dev nD) (w : Fin cfg2.W) (t : Fin cfg2.N) : ((cfg2.win w).xblock (cfg2.grid.coords t)).Idx → Elt F (cfg2.win w).elt :=
  (((cfg2.win w).blk t).view.read (Elt F) (V c (Pipeline.arrRef spec2 w)))

/-- The proof data: each input buffer keeps its block; each output buffer ends at what the body stores. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)
    | ⟨_ + 17, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) := by dsimp only [dat2]

/-- An input's buffer holds its block when the body starts. -/
theorem before2_in (c : Dev nD) (w : Fin cfg2.W) (hw : (cfg2.win w).isOut = false) (hidle : ∀ i, cfg2.idle w i = false)
    (hclip : ∀ i a, (cfg2.win w).clip i a = none)
    (hafter : ∀ t, (cfg2.win w).cut (cfg2.grid.coords t) ((dat2 V c).after w t) = iblk2 V c w t) (t : Fin cfg2.N) (d) :
    (dat2 V c).before w t d = (dat2 V c).fetched w t d :=
  (dat2 V c).before_in_eq_fetched w hw hidle (fun t t' _ => by funext a; rw [hclip, hclip])
    (fun t => by rw [hafter]; unfold Dat.blockOf iblk2; rw [A_eq2]) t d

theorem before2_0 (c : Dev nD) (t : Fin cfg2.N) (d) : (dat2 V c).before 0 t d = iblk2 V c 0 t :=
  (before2_in V c 0 rfl (fun _ => rfl) (fun _ _ => rfl) (fun t => by rw [after2_0]) t d).trans
    (by unfold Dat.fetched Dat.blockOf iblk2; rw [A_eq2]; try rfl)
theorem before2_1 (c : Dev nD) (t : Fin cfg2.N) (d) : (dat2 V c).before 1 t d = iblk2 V c 1 t :=
  (before2_in V c 1 rfl (fun _ => rfl) (fun _ _ => rfl) (fun t => by rw [after2_1]) t d).trans
    (by unfold Dat.fetched Dat.blockOf iblk2; rw [A_eq2]; try rfl)
theorem before2_2 (c : Dev nD) (t : Fin cfg2.N) (d) : (dat2 V c).before 2 t d = iblk2 V c 2 t :=
  (before2_in V c 2 rfl (fun _ => rfl) (fun _ _ => rfl) (fun t => by rw [after2_2]) t d).trans
    (by unfold Dat.fetched Dat.blockOf iblk2; rw [A_eq2]; try rfl)
theorem before2_3 (c : Dev nD) (t : Fin cfg2.N) (d) : (dat2 V c).before 3 t d = iblk2 V c 3 t :=
  (before2_in V c 3 rfl (fun _ => rfl) (fun _ _ => rfl) (fun t => by rw [after2_3]) t d).trans
    (by unfold Dat.fetched Dat.blockOf iblk2; rw [A_eq2]; try rfl)
theorem before2_4 (c : Dev nD) (t : Fin cfg2.N) (d) : (dat2 V c).before 4 t d = iblk2 V c 4 t :=
  (before2_in V c 4 rfl (fun _ => rfl) (fun _ _ => rfl) (fun t => by rw [after2_4]) t d).trans
    (by unfold Dat.fetched Dat.blockOf iblk2; rw [A_eq2]; try rfl)
theorem before2_5 (c : Dev nD) (t : Fin cfg2.N) (d) : (dat2 V c).before 5 t d = iblk2 V c 5 t :=
  (before2_in V c 5 rfl (fun _ => rfl) (fun _ _ => rfl) (fun t => by rw [after2_5]) t d).trans
    (by unfold Dat.fetched Dat.blockOf iblk2; rw [A_eq2]; try rfl)
theorem before2_6 (c : Dev nD) (t : Fin cfg2.N) (d) : (dat2 V c).before 6 t d = iblk2 V c 6 t :=
  (before2_in V c 6 rfl (fun _ => rfl) (fun _ _ => rfl) (fun t => by rw [after2_6]) t d).trans
    (by unfold Dat.fetched Dat.blockOf iblk2; rw [A_eq2]; try rfl)
theorem before2_7 (c : Dev nD) (t : Fin cfg2.N) (d) : (dat2 V c).before 7 t d = iblk2 V c 7 t :=
  (before2_in V c 7 rfl (fun _ => rfl) (fun _ _ => rfl) (fun t => by rw [after2_7]) t d).trans
    (by unfold Dat.fetched Dat.blockOf iblk2; rw [A_eq2]; try rfl)
theorem before2_8 (c : Dev nD) (t : Fin cfg2.N) (d) : (dat2 V c).before 8 t d = iblk2 V c 8 t :=
  (before2_in V c 8 rfl (fun _ => rfl) (fun _ _ => rfl) (fun t => by rw [after2_8]) t d).trans
    (by unfold Dat.fetched Dat.blockOf iblk2; rw [A_eq2]; try rfl)
theorem before2_9 (c : Dev nD) (t : Fin cfg2.N) (d) : (dat2 V c).before 9 t d = iblk2 V c 9 t :=
  (before2_in V c 9 rfl (fun _ => rfl) (fun _ _ => rfl) (fun t => by rw [after2_9]) t d).trans
    (by unfold Dat.fetched Dat.blockOf iblk2; rw [A_eq2]; try rfl)
theorem before2_10 (c : Dev nD) (t : Fin cfg2.N) (d) : (dat2 V c).before 10 t d = iblk2 V c 10 t :=
  (before2_in V c 10 rfl (fun _ => rfl) (fun _ _ => rfl) (fun t => by rw [after2_10]) t d).trans
    (by unfold Dat.fetched Dat.blockOf iblk2; rw [A_eq2]; try rfl)
theorem before2_11 (c : Dev nD) (t : Fin cfg2.N) (d) : (dat2 V c).before 11 t d = iblk2 V c 11 t :=
  (before2_in V c 11 rfl (fun _ => rfl) (fun _ _ => rfl) (fun t => by rw [after2_11]) t d).trans
    (by unfold Dat.fetched Dat.blockOf iblk2; rw [A_eq2]; try rfl)
theorem before2_12 (c : Dev nD) (t : Fin cfg2.N) (d) : (dat2 V c).before 12 t d = iblk2 V c 12 t :=
  (before2_in V c 12 rfl (fun _ => rfl) (fun _ _ => rfl) (fun t => by rw [after2_12]) t d).trans
    (by unfold Dat.fetched Dat.blockOf iblk2; rw [A_eq2]; try rfl)
theorem before2_13 (c : Dev nD) (t : Fin cfg2.N) (d) : (dat2 V c).before 13 t d = iblk2 V c 13 t :=
  (before2_in V c 13 rfl (fun _ => rfl) (fun _ _ => rfl) (fun t => by rw [after2_13]) t d).trans
    (by unfold Dat.fetched Dat.blockOf iblk2; rw [A_eq2]; try rfl)
theorem before2_14 (c : Dev nD) (t : Fin cfg2.N) (d) : (dat2 V c).before 14 t d = iblk2 V c 14 t :=
  (before2_in V c 14 rfl (fun _ => rfl) (fun _ _ => rfl) (fun t => by rw [after2_14]) t d).trans
    (by unfold Dat.fetched Dat.blockOf iblk2; rw [A_eq2]; try rfl)
theorem before2_15 (c : Dev nD) (t : Fin cfg2.N) (d) : (dat2 V c).before 15 t d = iblk2 V c 15 t :=
  (before2_in V c 15 rfl (fun _ => rfl) (fun _ _ => rfl) (fun t => by rw [after2_15]) t d).trans
    (by unfold Dat.fetched Dat.blockOf iblk2; rw [A_eq2]; try rfl)

/-- What the body is given at a grid point. -/
def pre2 (c : Dev nD) (t : Fin cfg2.N) : sProp 𝕄 :=
  iprop((dat2 V c).Φ t.castSucc
    ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d)))
/-- What it gives back. -/
def post2 (c : Dev nD) (t : Fin cfg2.N) : sProp 𝕄 :=
  iprop((dat2 V c).Φ t.succ
    ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t))

set_option maxHeartbeats 1000000 in
/-- The body at any grid point. -/
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5, before2_6, before2_7, before2_8, before2_9, before2_10, before2_11, before2_12, before2_13, before2_14, before2_15]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body2_step c Set.univ (grid2.coords t) _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body obligation of this region, at every grid point. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t by
    unfold defs₀; rw [Defs.onTc_tc]]
  exact triple_restated (step2 V c t) rfl .rfl fun _ => .rfl

end Data

end Cert.KernelIdeal.Run

end
-- ==== Proof.KernelIdeal.Fold.lean ====
module

public import proofs.«01_k».proof.Proof.KernelIdeal.Region0
public import proofs.«01_k».proof.Proof.KernelIdeal.Region1
public import proofs.«01_k».proof.Proof.KernelIdeal.Region2
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # What every buffer holds between the segments of the program

The program is three times "a stretch of host operations, then a kernel". `W0` are the contents at launch, `W1` those after the
first stretch, `W2` those after the first kernel, and so on to `W6`, the contents at the end. -/

/-- The arrays the program is given. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- What the operations before kernel 0 write. -/
abbrev written0 : List (Ref sig .tc) := [main_v0, main_v1, main_v2]
/-- None of them allocates. -/
theorem ops0_fresh : (hostOps0 : List (HloOp τ sig (Elt F))).Forall fun op => op.fresh = ∅ := by
  simp only [List.Forall]; repeat' constructor
theorem ops0_writes : (hostOps0 : List (HloOp τ sig (Elt F))).Forall fun op => op.writes ⊆ (written0.map (Proc.devRef (τ := τ) .tc)).toFinset :=
  StableHlo.forall_writes_sub_of_map rfl
theorem ops0_args : ∀ a ∈ argRefs, a ∉ written0 := ListAll.forall_mem_of_all_decide (by decide +kernel)

/-- What the operations before kernel 1 write. -/
abbrev written1 : List (Ref sig .tc) := [main_v4]
/-- None of them allocates. -/
theorem ops1_fresh : (hostOps1 : List (HloOp τ sig (Elt F))).Forall fun op => op.fresh = ∅ := by
  simp only [List.Forall]; repeat' constructor
theorem ops1_writes : (hostOps1 : List (HloOp τ sig (Elt F))).Forall fun op => op.writes ⊆ (written1.map (Proc.devRef (τ := τ) .tc)).toFinset :=
  StableHlo.forall_writes_sub_of_map rfl
theorem ops1_args : ∀ a ∈ argRefs, a ∉ written1 := ListAll.forall_mem_of_all_decide (by decide +kernel)

/-- What the operations before kernel 2 write. -/
abbrev written2 : List (Ref sig .tc) := [main_v6, main_v7, main_v8, main_v9]
/-- None of them allocates. -/
theorem ops2_fresh : (hostOps2 : List (HloOp τ sig (Elt F))).Forall fun op => op.fresh = ∅ := by
  simp only [List.Forall]; repeat' constructor
theorem ops2_writes : (hostOps2 : List (HloOp τ sig (Elt F))).Forall fun op => op.writes ⊆ (written2.map (Proc.devRef (τ := τ) .tc)).toFinset :=
  StableHlo.forall_writes_sub_of_map rfl
theorem ops2_args : ∀ a ∈ argRefs, a ∉ written2 := ListAll.forall_mem_of_all_decide (by decide +kernel)

/-- At launch. -/
abbrev W0 : Dev nD → Valuation τ sig (Elt F) := fun c b => (s₀ m ρ).mem ((c : Dev nD), b)

/-- After the operations before kernel 0. -/
abbrev W1 : Dev nD → Valuation τ sig (Elt F) := fun c => StableHlo.after hostOps0 (W0 m ρ c)
theorem W1_of (c : Dev nD) (r : Ref sig .tc) (h : r ∉ written0) : W1 m ρ c (Proc.devRef .tc r) = W0 m ρ c (Proc.devRef .tc r) :=
  StableHlo.after_of_writes_sub hostOps0 _ ops0_writes h
/-- The same, by reference: what kernel 0 starts from. -/
abbrev V1 : (c : Dev nD) → (b : Ref sig .tc) → Buf (Elt F) ((c : Thread nD τ).loc b) := fun c b => W1 m ρ c b
/-- After kernel 0: its own arrays as its windows leave them, the rest as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_rest (c : Dev nD) (r : Ref sig .tc) (h : ∀ w, Pipeline.arrRef spec0 w ≠ r) :
    W2 m ρ c (Proc.devRef .tc r) = W1 m ρ c (Proc.devRef .tc r) := by
  unfold W2; exact Pipeline.withArrays_of_ne spec0 c _ _ r h
/-- Only the kernel's output arrays change. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    rw [W2_arr, Dat.arrAt_in _ w (h w rfl), A_eq0]
  · exact W2_rest m ρ c r fun w e => hw ⟨w, e⟩
theorem args_in0 : ∀ a ∈ argRefs, ∀ w : Fin cfg0.W, Pipeline.arrRef spec0 w = a → (cfg0.win w).isOut = false :=
  ListAll.forall_mem_of_all_decide (by decide +kernel)
theorem W2_args (c : Dev nD) (r : Ref sig .tc) (hr : r ∈ argRefs) : W2 m ρ c (Proc.devRef .tc r) = m ((c : Thread nD τ).loc r) :=
  (W2_of m ρ c r (args_in0 r hr)).trans ((W1_of m ρ c r (ops0_args r hr)).trans rfl)
abbrev V2 : (c : Dev nD) → (b : Ref sig .tc) → Buf (Elt F) ((c : Thread nD τ).loc b) := fun c b => W2 m ρ c b
theorem arrays0 (c : Dev nD) (w : Fin cfg0.W) : (dat0 (V1 m ρ) c).arrAt w cfg0.N = V2 m ρ c (Pipeline.arrRef spec0 w) :=
  (W2_arr m ρ c w).symm
theorem others0 (c : Dev nD) : ∀ b, b ∉ Finset.univ.image (Pipeline.arrRef spec0) → V2 m ρ c b = V1 m ρ c b :=
  fun b hb => W2_rest m ρ c b fun w e => hb (Finset.mem_image.mpr ⟨w, Finset.mem_univ _, e⟩)

/-- After the operations before kernel 1. -/
abbrev W3 : Dev nD → Valuation τ sig (Elt F) := fun c => StableHlo.after hostOps1 (W2 m ρ c)
theorem W3_of (c : Dev nD) (r : Ref sig .tc) (h : r ∉ written1) : W3 m ρ c (Proc.devRef .tc r) = W2 m ρ c (Proc.devRef .tc r) :=
  StableHlo.after_of_writes_sub hostOps1 _ ops1_writes h
/-- The same, by reference: what kernel 1 starts from. -/
abbrev V3 : (c : Dev nD) → (b : Ref sig .tc) → Buf (Elt F) ((c : Thread nD τ).loc b) := fun c b => W3 m ρ c b
/-- After kernel 1: its own arrays as its windows leave them, the rest as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_rest (c : Dev nD) (r : Ref sig .tc) (h : ∀ w, Pipeline.arrRef spec1 w ≠ r) :
    W4 m ρ c (Proc.devRef .tc r) = W3 m ρ c (Proc.devRef .tc r) := by
  unfold W4; exact Pipeline.withArrays_of_ne spec1 c _ _ r h
/-- Only the kernel's output arrays change. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    rw [W4_arr, Dat.arrAt_in _ w (h w rfl), A_eq1]
  · exact W4_rest m ρ c r fun w e => hw ⟨w, e⟩
theorem args_in1 : ∀ a ∈ argRefs, ∀ w : Fin cfg1.W, Pipeline.arrRef spec1 w = a → (cfg1.win w).isOut = false :=
  ListAll.forall_mem_of_all_decide (by decide +kernel)
theorem W4_args (c : Dev nD) (r : Ref sig .tc) (hr : r ∈ argRefs) : W4 m ρ c (Proc.devRef .tc r) = m ((c : Thread nD τ).loc r) :=
  (W4_of m ρ c r (args_in1 r hr)).trans ((W3_of m ρ c r (ops1_args r hr)).trans (W2_args m ρ c r hr))
abbrev V4 : (c : Dev nD) → (b : Ref sig .tc) → Buf (Elt F) ((c : Thread nD τ).loc b) := fun c b => W4 m ρ c b
theorem arrays1 (c : Dev nD) (w : Fin cfg1.W) : (dat1 (V3 m ρ) c).arrAt w cfg1.N = V4 m ρ c (Pipeline.arrRef spec1 w) :=
  (W4_arr m ρ c w).symm
theorem others1 (c : Dev nD) : ∀ b, b ∉ Finset.univ.image (Pipeline.arrRef spec1) → V4 m ρ c b = V3 m ρ c b :=
  fun b hb => W4_rest m ρ c b fun w e => hb (Finset.mem_image.mpr ⟨w, Finset.mem_univ _, e⟩)

/-- After the operations before kernel 2. -/
abbrev W5 : Dev nD → Valuation τ sig (Elt F) := fun c => StableHlo.after hostOps2 (W4 m ρ c)
theorem W5_of (c : Dev nD) (r : Ref sig .tc) (h : r ∉ written2) : W5 m ρ c (Proc.devRef .tc r) = W4 m ρ c (Proc.devRef .tc r) :=
  StableHlo.after_of_writes_sub hostOps2 _ ops2_writes h
/-- The same, by reference: what kernel 2 starts from. -/
abbrev V5 : (c : Dev nD) → (b : Ref sig .tc) → Buf (Elt F) ((c : Thread nD τ).loc b) := fun c b => W5 m ρ c b
/-- After kernel 2: its own arrays as its windows leave them, the rest as before. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_rest (c : Dev nD) (r : Ref sig .tc) (h : ∀ w, Pipeline.arrRef spec2 w ≠ r) :
    W6 m ρ c (Proc.devRef .tc r) = W5 m ρ c (Proc.devRef .tc r) := by
  unfold W6; exact Pipeline.withArrays_of_ne spec2 c _ _ r h
/-- Only the kernel's output arrays change. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    rw [W6_arr, Dat.arrAt_in _ w (h w rfl), A_eq2]
  · exact W6_rest m ρ c r fun w e => hw ⟨w, e⟩
theorem args_in2 : ∀ a ∈ argRefs, ∀ w : Fin cfg2.W, Pipeline.arrRef spec2 w = a → (cfg2.win w).isOut = false :=
  ListAll.forall_mem_of_all_decide (by decide +kernel)
theorem W6_args (c : Dev nD) (r : Ref sig .tc) (hr : r ∈ argRefs) : W6 m ρ c (Proc.devRef .tc r) = m ((c : Thread nD τ).loc r) :=
  (W6_of m ρ c r (args_in2 r hr)).trans ((W5_of m ρ c r (ops2_args r hr)).trans (W4_args m ρ c r hr))
abbrev V6 : (c : Dev nD) → (b : Ref sig .tc) → Buf (Elt F) ((c : Thread nD τ).loc b) := fun c b => W6 m ρ c b
theorem arrays2 (c : Dev nD) (w : Fin cfg2.W) : (dat2 (V5 m ρ) c).arrAt w cfg2.N = V6 m ρ c (Pipeline.arrRef spec2 w) :=
  (W6_arr m ρ c w).symm
theorem others2 (c : Dev nD) : ∀ b, b ∉ Finset.univ.image (Pipeline.arrRef spec2) → V6 m ρ c b = V5 m ρ c b :=
  fun b hb => W6_rest m ρ c b fun w e => hb (Finset.mem_image.mpr ⟨w, Finset.mem_univ _, e⟩)

end Cert.KernelIdeal.Run

end
-- ==== Proof.KernelIdeal.Records.lean ====
module

public import proofs.«01_k».proof.Proof.KernelIdeal.Fold

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The three kernels as segments of the program -/

/-- No kernel prefetches a table. -/
abbrev adm : (p : Fin 3) → (pcfgs (F := F) p).Adm := fun p => (cfgs p).toPCfg_adm
/-- The three kernels' data, each from the contents it starts with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
/-- No core owes another anything. -/
abbrev noLevels : GSem nD τ sig → Finset Unit := fun _ => ∅
abbrev noLevel : GSem nD τ sig → Unit → ℕ := fun _ _ => 0
/-- What is carried past every segment besides the buffers. -/
abbrev Carried (c : Dev nD) : sProp 𝕄 := iprop((∃ r, prngReg c r) ∗ ∃ W, owes (c : Thread nD τ) (0 : CellTallies nD τ sig Unit) W)
/-- Between two segments: every buffer at the contents `W`. -/
abbrev Between (W : Dev nD → Valuation τ sig (Elt F)) (c : Dev nD) : sProp 𝕄 :=
  iprop(StableHlo.held (c : Thread nD τ) (Pipeline.ucRefs τ sig) (W c) ∗ Carried c)
/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Carried

set_option backward.isDefEq.respectTransparency.types false in
/-- Kernel 0: its arrays leave the buffers at `W1` and come back to them at `W2`. -/
def reg0 : Pipeline.RegionSeg (pcfgs (F := F)) adm (pdats m ρ) () defs₀ Variants.none noLevels noLevel 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ noLevels noLevel 0 fun _ _ => rfl
  pre := Between (W1 m ρ)
  post := Between (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1: its arrays leave the buffers at `W3` and come back to them at `W4`. -/
def reg1 : Pipeline.RegionSeg (pcfgs (F := F)) adm (pdats m ρ) () defs₀ Variants.none noLevels noLevel 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ noLevels noLevel 1 fun _ _ => rfl
  pre := Between (W3 m ρ)
  post := Between (W4 m ρ)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2: its arrays leave the buffers at `W5` and come back to them at `W6`. -/
def reg2 : Pipeline.RegionSeg (pcfgs (F := F)) adm (pdats m ρ) () defs₀ Variants.none noLevels noLevel 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ noLevels noLevel 2 fun _ _ => rfl
  pre := Between (W5 m ρ)
  post := Between (W6 m ρ)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (arrays2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdeal.Run.lean ====
module

public import proofs.«01_k».proof.Proof.KernelIdeal.Records

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The whole run -/

/-- The program's six segments. -/
abbrev segs : List (Pipeline.Seg (pcfgs (F := F)) adm (pdats m ρ) () defs₀ Variants.none noLevels noLevel) :=
  [ .host (hostSeg hostOps0 hostOps0_sub ops0_fresh (W0 m ρ)), .region (reg0 m ρ),
    .host (hostSeg hostOps1 hostOps1_sub ops1_fresh (W2 m ρ)), .region (reg1 m ρ),
    .host (hostSeg hostOps2 hostOps2_sub ops2_fresh (W4 m ρ)), .region (reg2 m ρ) ]
theorem main_segs (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem sems_scoped : ∀ sm : SemLoc sig, sm.isScoped .tc = true := by decide

/-- The contents held at the end, apart from what the core owes. -/
theorem last_split (c : Dev nD) : (Between (F := F) (W6 m ρ) c : sProp 𝕄)
    ⊢ iprop((StableHlo.held (c : Thread nD τ) (Pipeline.ucRefs τ sig) (W6 m ρ c) ∗ ∃ r, prngReg c r)
        ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every execution ends; then every buffer of the program is at `W6`, and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ Variants.none noLevels noLevel m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Between (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, last_split m ρ⟩)
    (hinit := by
      refine Pipeline.initEach noLevels noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (sems_scoped g.2))⟩)

theorem arg_end {mem : (ℓ : Loc nD τ sig) → Buf (Elt F) ℓ} (c : Dev nD)
    (h : ∀ b ∈ Pipeline.ucRefs τ sig, mem (((c : Thread nD τ)).1, b) = W6 m ρ c b)
    (a : Ref sig .tc) (ha : a ∈ argRefs) (hu : ¬ (Proc.devRef .tc a : DevRef τ sig).isScoped) :
    mem ((c.tc : Thread nD τ).loc a) = m ((c.tc : Thread nD τ).loc a) :=
  (h _ (mem_uc a hu)).trans (W6_args m ρ c a ha)

/-- Every execution ends; the arguments are then as launched, the result at `W6`, every semaphore at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.mem ((c.tc : Thread nD τ).loc main_v10) = W6 m ρ c (Proc.devRef .tc main_v10))
      ∧ r.2.sem = fun _ => 0) :=
  (θ_run defs _ _).mono (fun _ h => ⟨fun c => by
    exact ⟨⟨arg_end m ρ c (h.1 c) main_arg0 (by decide) (by decide),
      arg_end m ρ c (h.1 c) main_arg1 (by decide) (by decide),
      arg_end m ρ c (h.1 c) main_arg2 (by decide) (by decide),
      arg_end m ρ c (h.1 c) main_arg3 (by decide) (by decide),
      arg_end m ρ c (h.1 c) main_arg4 (by decide) (by decide),
      arg_end m ρ c (h.1 c) main_arg5 (by decide) (by decide),
      arg_end m ρ c (h.1 c) main_arg6 (by decide) (by decide),
      arg_end m ρ c (h.1 c) main_arg7 (by decide) (by decide),
      arg_end m ρ c (h.1 c) main_arg8 (by decide) (by decide),
      arg_end m ρ c (h.1 c) main_arg9 (by decide) (by decide),
      arg_end m ρ c (h.1 c) main_arg10 (by decide) (by decide),
      arg_end m ρ c (h.1 c) main_arg11 (by decide) (by decide),
      arg_end m ρ c (h.1 c) main_arg12 (by decide) (by decide),
      arg_end m ρ c (h.1 c) main_arg13 (by decide) (by decide),
      arg_end m ρ c (h.1 c) main_arg14 (by decide) (by decide),
      arg_end m ρ c (h.1 c) main_arg15 (by decide) (by decide),
      arg_end m ρ c (h.1 c) main_arg16 (by decide) (by decide)⟩, h.1 c _ (mem_uc main_v10 (by decide))⟩, h.2⟩) (run_all m ρ)

/-- The frame: the arguments end as launched, nothing faults, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => (h.1 c).1, h.2⟩) (run m ρ)

end Cert.KernelIdeal.Run

end
-- ==== Proof.Maths.Reals.lean ====
module

public import Mathlib.Analysis.SpecialFunctions.Pow.Real
public import Mathlib.Algebra.BigOperators.Fin
public import Mathlib.Tactic.Ring
public import Mathlib.Tactic.Linarith
public import Mathlib.Tactic.FieldSimp

@[expose] public section

noncomputable section

/-! # The layer over the real numbers

Every stage of the computation as a function of real matrices, the rows indexed by any finite type `ι` (all rows, or the rows of
one block). `s n` is the set that row `n` belongs to. -/

namespace Cert.Maths

variable {ι : Type} [Fintype ι]

/-- One when the row's set is the asked one, else zero. -/
def hot (a k : Fin 64) : ℝ := if a = k then 1 else 0

/-- The columns of a 136-row matrix that belong to the row's own entries, and to its features. -/
def lo (i : Fin 128) : Fin 136 := ⟨i.val, by omega⟩
def hi (i : Fin 8) : Fin 136 := ⟨128 + i.val, by omega⟩

/-- The features of a row: two dense layers with a rectifier between. -/
def feat (x : ι → Fin 128 → ℝ) (w1 : Fin 128 → Fin 128 → ℝ) (b1 : Fin 128 → ℝ) (w2 : Fin 128 → Fin 8 → ℝ) (b2 : Fin 8 → ℝ)
    (n : ι) (l : Fin 8) : ℝ :=
  ∑ k, max (∑ j, x n j * w1 j k + b1 k) 0 * w2 k l + b2 l
/-- The sum of the rows of each set. -/
def seg {m : ℕ} (s : ι → Fin 64) (v : ι → Fin m → ℝ) (k : Fin 64) (j : Fin m) : ℝ := ∑ n, hot (s n) k * v n j
/-- The number of rows of each set. -/
def cnt (s : ι → Fin 64) (k : Fin 64) : ℝ := ∑ n, hot (s n) k
/-- That number, at least one: what a set's sum is divided by. -/
def size (cn : Fin 64 → ℝ) (k : Fin 64) : ℝ := max (cn k) 1
/-- A row's entries and features against a 136-row matrix. -/
def both (a : Fin 128 → ℝ) (f : Fin 8 → ℝ) (w : Fin 136 → Fin 128 → ℝ) (j : Fin 128) : ℝ :=
  ∑ i, a i * w (lo i) j + ∑ i, f i * w (hi i) j
/-- What the first layer adds to each row of a set. -/
def c1 (sx : Fin 64 → Fin 128 → ℝ) (sf : Fin 64 → Fin 8 → ℝ) (cn : Fin 64 → ℝ) (l : Fin 136 → Fin 128 → ℝ) (gb : Fin 128 → ℝ)
    (k : Fin 64) (j : Fin 128) : ℝ :=
  gb j - both (fun i => sx k i / size cn k) (fun i => sf k i / size cn k) l j
/-- The first layer. -/
def act (x : ι → Fin 128 → ℝ) (f : ι → Fin 8 → ℝ) (s : ι → Fin 64) (g : Fin 136 → Fin 128 → ℝ) (c : Fin 64 → Fin 128 → ℝ)
    (n : ι) (j : Fin 128) : ℝ :=
  max (both (x n) (f n) g j + ∑ k, hot (s n) k * c k j) 0
/-- The products of the columns. -/
def gram (y : ι → Fin 128 → ℝ) (i j : Fin 128) : ℝ := ∑ n, y n i * y n j
/-- What the second layer adds to each row of a set. -/
def c2 (sy : Fin 64 → Fin 128 → ℝ) (cn : Fin 64 → ℝ) (l2 : Fin 128 → Fin 128 → ℝ) (gb : Fin 128 → ℝ) (k : Fin 64) (j : Fin 128) : ℝ :=
  gb j - ∑ i, sy k i / size cn k * l2 i j
/-- A matrix product. -/
def mul {κ : Type} (a : κ → Fin 128 → ℝ) (b : Fin 128 → Fin 128 → ℝ) (k : κ) (j : Fin 128) : ℝ := ∑ i, a k i * b i j
/-- The second layer. -/
def lin (y : ι → Fin 128 → ℝ) (s : ι → Fin 64) (g : Fin 128 → Fin 128 → ℝ) (c : Fin 64 → Fin 128 → ℝ) (n : ι) (j : Fin 128) : ℝ :=
  mul y g n j + ∑ k, hot (s n) k * c k j
/-- The mean of the second layer's columns, from the sums over the sets. -/
def muK (sg : Fin 64 → Fin 128 → ℝ) (cn : Fin 64 → ℝ) (c : Fin 64 → Fin 128 → ℝ) (j : Fin 128) : ℝ :=
  (∑ k, (sg k j + cn k * c k j)) * (1 / 100000)
/-- Their variance, from the sums over the sets and the products of the columns. -/
def varK (sg : Fin 64 → Fin 128 → ℝ) (cn : Fin 64 → ℝ) (c : Fin 64 → Fin 128 → ℝ) (M g : Fin 128 → Fin 128 → ℝ) (j : Fin 128) : ℝ :=
  (∑ i, g i j * mul M g i j + 2 * ∑ k, sg k j * c k j + ∑ k, cn k * c k j * c k j) * (1 / 100000) - muK sg cn c j * muK sg cn c j
/-- What each column is scaled by: the last factor over the root of the variance and the small constant. -/
def scale (v ga : Fin 128 → ℝ) (j : Fin 128) : ℝ := ga j * (Real.sqrt (v j + 1 / 100000))⁻¹
/-- The mean of a matrix's columns, -/
def mean (z : ι → Fin 128 → ℝ) (j : Fin 128) : ℝ := (∑ n, z n j) / 100000
/-- and their variance. -/
def var (z : ι → Fin 128 → ℝ) (j : Fin 128) : ℝ := (∑ n, (z n j - mean z j) * (z n j - mean z j)) / 100000

/-- The second layer from the arguments. -/
def second (x : ι → Fin 128 → ℝ) (s : ι → Fin 64) (w1 : Fin 128 → Fin 128 → ℝ) (b1 : Fin 128 → ℝ) (w2 : Fin 128 → Fin 8 → ℝ)
    (b2 : Fin 8 → ℝ) (g l : Fin 136 → Fin 128 → ℝ) (gb : Fin 128 → ℝ) (g2 : Fin 128 → Fin 128 → ℝ) (g2b : Fin 128 → ℝ)
    (l2 : Fin 128 → Fin 128 → ℝ) : ι → Fin 128 → ℝ :=
  lin (act x (feat x w1 b1 w2 b2) s g (c1 (seg s x) (seg s (feat x w1 b1 w2 b2)) (cnt s) l gb)) s g2
    (c2 (seg s (act x (feat x w1 b1 w2 b2) s g (c1 (seg s x) (seg s (feat x w1 b1 w2 b2)) (cnt s) l gb))) (cnt s) l2 g2b)

/-- A row's entries and its features, one after the other. -/
def cat (a : Fin 128 → ℝ) (f : Fin 8 → ℝ) (k : Fin 136) : ℝ :=
  if h : k.val < 128 then a ⟨k.val, h⟩ else f ⟨k.val - 128, by omega⟩

theorem cat_mul (a : Fin 128 → ℝ) (f : Fin 8 → ℝ) (w : Fin 136 → Fin 128 → ℝ) (j : Fin 128) :
    ∑ k, cat a f k * w k j = both a f w j := by
  rw [both]
  refine (Fin.sum_univ_add (a := 128) (b := 8) fun k : Fin 136 => cat a f k * w k j).trans ?_
  refine congrArg₂ (· + ·) (Finset.sum_congr rfl fun i _ => ?_) (Finset.sum_congr rfl fun i _ => ?_)
  · have h : (Fin.castAdd 8 i).val < 128 := i.isLt
    rw [cat, dif_pos h]
    rfl
  · have h : ¬ (Fin.natAdd 128 i).val < 128 := by simp
    rw [cat, dif_neg h]
    refine congrArg₂ (· * ·) (congrArg f (Fin.ext ?_)) rfl
    simp

theorem cat_seg (s : ι → Fin 64) (x : ι → Fin 128 → ℝ) (f : ι → Fin 8 → ℝ) (d : ℝ) (k : Fin 64) (i : Fin 136) :
    seg s (fun n => cat (x n) (f n)) k i / d = cat (fun i => seg s x k i / d) (fun i => seg s f k i / d) i := by
  by_cases h : i.val < 128 <;> simp [seg, cat, h]

/-! ## Sums over the sets are sums over the rows -/

theorem hot_sum (a : Fin 64) (c : Fin 64 → ℝ) : ∑ k, hot a k * c k = c a := by
  simp [hot]

theorem size_pos (cn : Fin 64 → ℝ) (k : Fin 64) : 0 < size cn k := lt_of_lt_of_le one_pos (le_max_right _ _)

/-- A sum over the sets, of row sums weighted by set, goes row by row. -/
theorem seg_weighted (s : ι → Fin 64) (v : ι → ℝ) (c : Fin 64 → ℝ) : ∑ k, (∑ n, hot (s n) k * v n) * c k = ∑ n, v n * c (s n) := by
  simp only [Finset.sum_mul]
  rw [Finset.sum_comm]
  refine Finset.sum_congr rfl fun n _ => ?_
  rw [← hot_sum (s n) c, Finset.mul_sum]
  exact Finset.sum_congr rfl fun k _ => by ring

/-- The sets' sums against a matrix are the sets' sums of the rows against it. -/
theorem mul_seg (s : ι → Fin 64) (y : ι → Fin 128 → ℝ) (g : Fin 128 → Fin 128 → ℝ) (k : Fin 64) (j : Fin 128) :
    mul (seg s y) g k j = ∑ n, hot (s n) k * mul y g n j := by
  simp only [mul, seg, Finset.sum_mul, Finset.mul_sum]
  rw [Finset.sum_comm]
  exact Finset.sum_congr rfl fun n _ => Finset.sum_congr rfl fun i _ => by ring

/-- The products of the columns, against a matrix on both sides. -/
theorem gram_diag (y : ι → Fin 128 → ℝ) (g : Fin 128 → Fin 128 → ℝ) (j : Fin 128) :
    ∑ i, g i j * mul (gram y) g i j = ∑ n, mul y g n j * mul y g n j := by
  simp only [mul, gram, Finset.sum_mul, Finset.mul_sum]
  rw [Finset.sum_comm' (t' := Finset.univ) (s' := fun _ => Finset.univ) (by simp)]
  rw [Finset.sum_congr rfl fun l _ => Finset.sum_comm]
  rw [Finset.sum_comm]
  refine Finset.sum_congr rfl fun n _ => ?_
  exact Finset.sum_congr rfl fun l _ => Finset.sum_congr rfl fun i _ => by ring

theorem lin_eq (y : ι → Fin 128 → ℝ) (s : ι → Fin 64) (g : Fin 128 → Fin 128 → ℝ) (c : Fin 64 → Fin 128 → ℝ) (n : ι) (j : Fin 128) :
    lin y s g c n j = mul y g n j + c (s n) j := by
  rw [lin, hot_sum (s n) fun k => c k j]

/-- The first layer with the set's part taken away from the row's. -/
theorem act_eq (x : ι → Fin 128 → ℝ) (f : ι → Fin 8 → ℝ) (s : ι → Fin 64) (g l : Fin 136 → Fin 128 → ℝ) (cn : Fin 64 → ℝ)
    (gb : Fin 128 → ℝ) (n : ι) (j : Fin 128) :
    max (∑ k, cat (x n) (f n) k * g k j + gb j - ∑ k, seg s (fun n => cat (x n) (f n)) (s n) k / size cn (s n) * l k j) 0
      = act x f s g (c1 (seg s x) (seg s f) cn l gb) n j := by
  simp only [cat_seg, cat_mul, act]
  rw [hot_sum (s n) fun k => c1 (seg s x) (seg s f) cn l gb k j, c1, add_sub_assoc]

/-- The second layer likewise. -/
theorem lin_sub (y : ι → Fin 128 → ℝ) (s : ι → Fin 64) (g l2 : Fin 128 → Fin 128 → ℝ) (cn : Fin 64 → ℝ) (gb : Fin 128 → ℝ) (n : ι)
    (j : Fin 128) :
    ∑ k, y n k * g k j + gb j - ∑ k, seg s y (s n) k / size cn (s n) * l2 k j = lin y s g (c2 (seg s y) cn l2 gb) n j := by
  rw [lin_eq, mul, c2, add_sub_assoc]

/-- The mean from the sets' sums is the mean of the rows. -/
theorem muK_eq (y : ι → Fin 128 → ℝ) (s : ι → Fin 64) (g : Fin 128 → Fin 128 → ℝ) (c : Fin 64 → Fin 128 → ℝ) (j : Fin 128) :
    muK (mul (seg s y) g) (cnt s) c j = mean (lin y s g c) j := by
  have h1 : ∑ k, mul (seg s y) g k j = ∑ n, mul y g n j := by
    simp only [mul_seg]
    simpa using seg_weighted s (fun n => mul y g n j) fun _ => 1
  have h2 : ∑ k, cnt s k * c k j = ∑ n, c (s n) j := by
    simpa [cnt] using seg_weighted s (fun _ => 1) fun k => c k j
  simp only [muK, mean, lin_eq, Finset.sum_add_distrib, h1, h2]
  ring

/-- The mean of the squared distances is the mean of the squares less the square of the mean. -/
theorem var_eq (hN : (Fintype.card ι : ℝ) = 100000) (z : ι → Fin 128 → ℝ) (j : Fin 128) :
    var z j = (∑ n, z n j * z n j) * (1 / 100000) - mean z j * mean z j := by
  have h : ∀ n, (z n j - mean z j) * (z n j - mean z j) = z n j * z n j - 2 * mean z j * z n j + mean z j * mean z j := fun n => by ring
  have hs : ∑ n, z n j = 100000 * mean z j := by rw [mean]; ring
  simp only [var, h, Finset.sum_add_distrib, Finset.sum_sub_distrib, ← Finset.mul_sum, hs, Finset.sum_const, Finset.card_univ,
    nsmul_eq_mul, hN]
  ring

/-- The variance from the sets' sums is the variance of the rows. -/
theorem varK_eq (hN : (Fintype.card ι : ℝ) = 100000) (y : ι → Fin 128 → ℝ) (s : ι → Fin 64) (g : Fin 128 → Fin 128 → ℝ)
    (c : Fin 64 → Fin 128 → ℝ) (j : Fin 128) :
    varK (mul (seg s y) g) (cnt s) c (gram y) g j = var (lin y s g c) j := by
  have h1 : ∑ k, mul (seg s y) g k j * c k j = ∑ n, mul y g n j * c (s n) j := by
    simp only [mul_seg]
    exact seg_weighted s (fun n => mul y g n j) fun k => c k j
  have h2 : ∑ k, cnt s k * c k j * c k j = ∑ n, c (s n) j * c (s n) j := by
    simpa [cnt, mul_assoc] using seg_weighted s (fun _ => 1) fun k => c k j * c k j
  have h3 : ∀ n, (mul y g n j + c (s n) j) * (mul y g n j + c (s n) j)
      = mul y g n j * mul y g n j + 2 * (mul y g n j * c (s n) j) + c (s n) j * c (s n) j := fun n => by ring
  rw [var_eq hN, varK, muK_eq, gram_diag, h1, h2]
  simp only [lin_eq, h3, Finset.sum_add_distrib, ← Finset.mul_sum]

theorem var_nonneg (z : ι → Fin 128 → ℝ) (j : Fin 128) : 0 ≤ var z j :=
  div_nonneg (Finset.sum_nonneg fun n _ => mul_self_nonneg _) (by norm_num)

/-- A variance and the small constant make a positive number. -/
theorem var_pos (z : ι → Fin 128 → ℝ) (j : Fin 128) : 0 < var z j + 1 / 100000 :=
  add_pos_of_nonneg_of_pos (var_nonneg z j) (by norm_num)

end Cert.Maths

end
-- ==== Proof.Maths.Lift.lean ====
module

public import Idealize.ShloMosaic.Lib.Pointwise
public import Idealize.ShloMosaic.Lib.ValueIdx
public import proofs.«01_k».proof.Proof.Maths.Reals

@[expose] public section

noncomputable section

/-! # Real matrices as buffers

A buffer of the idealized programs holds extended reals. `up`, `row`, `column`, `across` are the buffers of real matrices, of one-row
matrices and of a list of sets; the lemmas here bring an expression in such entries to one real number. -/

namespace Cert.Maths

open Idealize.ShloMosaic

/-- A real matrix as a buffer. -/
abbrev up {a b : ℕ} (A : Fin a → Fin b → ℝ) : (⟨2, ![a, b]⟩ : Shape).Idx → EReal := fun i => ((A (i 0) (i 1) : ℝ) : EReal)
/-- A real vector as a one-row buffer. -/
abbrev row {b : ℕ} (A : Fin b → ℝ) : (⟨2, ![1, b]⟩ : Shape).Idx → EReal := fun i => ((A (i 1) : ℝ) : EReal)
/-- A vector of extended reals as a one-row buffer. -/
abbrev across {b : ℕ} (A : Fin b → EReal) : (⟨2, ![1, b]⟩ : Shape).Idx → EReal := fun i => A (i 1)
/-- The rows' sets as a one-column buffer. -/
abbrev column {a : ℕ} (s : Fin a → Fin 64) : (⟨2, ![a, 1]⟩ : Shape).Idx → BitVec 32 := fun i => BitVec.ofNat 32 (s (i 0)).val

/-- A real vector as a buffer, a vector of extended reals, and the rows' sets. -/
abbrev vec {b : ℕ} (A : Fin b → ℝ) : (⟨1, ![b]⟩ : Shape).Idx → EReal := fun i => ((A (i 0) : ℝ) : EReal)
abbrev plain {b : ℕ} (A : Fin b → EReal) : (⟨1, ![b]⟩ : Shape).Idx → EReal := fun i => A (i 0)
abbrev sets {n : ℕ} (s : Fin n → Fin 64) : (⟨1, ![n]⟩ : Shape).Idx → BitVec 32 := fun i => BitVec.ofNat 32 (s (i 0)).val

/-! ## Sums, maxima and quotients of real numbers -/

theorem sum_coe {κ : Type} [Fintype κ] (f : κ → ℝ) : ∑ k, ((f k : ℝ) : EReal) = ((∑ k, f k : ℝ) : EReal) := by
  classical
  induction (Finset.univ : Finset κ) using Finset.induction_on with
  | empty => simp
  | insert a t ha h => rw [Finset.sum_insert ha, Finset.sum_insert ha, h, EReal.coe_add]

theorem max_coe (a b : ℝ) : max (a : EReal) (b : EReal) = ((max a b : ℝ) : EReal) :=
  (Monotone.map_max (fun _ _ h => EReal.coe_le_coe_iff.2 h)).symm

theorem div_coe {b : ℝ} (h : b ≠ 0) (a : ℝ) : Ideal.div (a : EReal) (b : EReal) = ((a / b : ℝ) : EReal) := by
  rw [Ideal.div_coe h, ← EReal.coe_mul, mul_one_div]

theorem div_max (a b : ℝ) : Ideal.div (a : EReal) ((max b 1 : ℝ) : EReal) = ((a / max b 1 : ℝ) : EReal) :=
  div_coe (lt_of_lt_of_le one_pos (le_max_right _ _)).ne' a

theorem sqrt_coe {a : ℝ} (h : 0 < a) : Ideal.sqrt (a : EReal) = ((Real.sqrt a : ℝ) : EReal) := by
  rw [Ideal.sqrt_coe, if_neg (not_lt.2 h.le)]

theorem rsqrt_coe {a : ℝ} (h : 0 < a) : Ideal.rsqrt (a : EReal) = (((Real.sqrt a)⁻¹ : ℝ) : EReal) := by
  rw [Ideal.rsqrt_coe, if_neg (not_lt.2 h.le), if_neg h.ne']

/-! ## The constants the programs hold -/

theorem word_two : Ideal.ofBits FTy.f32 0x40000000#32 = ((2 : ℝ) : EReal) := by
  simp [Ideal.ofBits, Ideal.ieee, -EReal.coe_mul]; norm_num

/-- The number of rows. -/
theorem word_rows : Ideal.ofBits FTy.f32 0x47C35000#32 = ((100000 : ℝ) : EReal) := by
  simp [Ideal.ofBits, Ideal.ieee, -EReal.coe_mul]; norm_num

/-! ## The comparison of a row's set with a set's number -/

theorem ofNat_eq (a k : Fin 64) : BitVec.ofNat 32 a.val = BitVec.ofNat 32 k.val ↔ a = k := by
  refine ⟨fun h => Fin.ext ?_, fun h => h ▸ rfl⟩
  have := congrArg BitVec.toNat h
  simp only [BitVec.toNat_ofNat] at this
  omega

theorem sitofp_eq {w : ℕ} (b : BitVec w) : FloatOps.sitofp (F := Ideal) FTy.f32 b = ((b.toInt : ℝ) : EReal) := rfl

/-- The compared numbers as a one or a zero. -/
theorem hot_word (a k : Fin 64) :
    FloatOps.sitofp (F := Ideal) FTy.f32 (BitVec.setWidth 32 (IntOp.cmpi CmpIPredicate.eq (BitVec.ofNat 32 a.val) (BitVec.ofNat 32 k.val)))
      = ((hot a k : ℝ) : EReal) := by
  by_cases h : a = k
  · subst h; simp [hot, IntOp.cmpi, sitofp_eq]
  · have : ¬ BitVec.ofNat 32 a.val = BitVec.ofNat 32 k.val := fun e => h ((ofNat_eq a k).1 e)
    simp [hot, IntOp.cmpi, sitofp_eq, h, beq_false_of_ne this]

/-- A set's number is under 64, so the mask over the rows is one. -/
theorem below_word (a : Fin 64) :
    FloatOps.sitofp (F := Ideal) FTy.f32 (BitVec.setWidth 32 (IntOp.cmpi CmpIPredicate.slt (BitVec.ofNat 32 a.val) 64#32))
      = ((1 : ℝ) : EReal) := by
  have : (BitVec.ofNat 32 a.val).slt 64#32 = true := by revert a; decide
  simp [IntOp.cmpi, sitofp_eq, this]

end Cert.Maths

end
-- ==== Proof.ReferenceIdeal.Scatter.lean ====
module

public import proofs.«01_k».proof.Proof.Maths.Lift

@[expose] public section

noncomputable section

/-! # Scattered sums and gathered rows

The reference adds each row, by the row's set, into a matrix of one row per set (and ones into a vector of one entry per set), and reads a
row of such a matrix back for each row. -/

namespace Cert.ReferenceIdeal.Value

open Cert.Maths
open Idealize.ShloMosaic Idealize.ShloMosaic.Pointwise

theorem toInt_set (a : Fin 64) : (BitVec.ofNat 32 a.val).toInt = (a.val : ℤ) := by revert a; decide

/-- Where the entry `(r, y)` of the added matrix goes: to the row of `r`'s set, at `y`. -/
theorem lands {n b : ℕ} (d : ScatterDims ⟨2, ![64, b]⟩ ⟨2, ![n, 1]⟩ ⟨2, ![n, b]⟩) (h1 : d.updateWindowDims = [1])
    (h2 : d.insertedWindowDims = [0]) (h3 : d.scatterDimsToOperandDims = [0]) (h4 : d.indexVectorDim = 1) (s : Fin n → Fin 64)
    (r : Fin n) (y : Fin b) : d.resultIdx? (ix2 r y) (column s) = some (ix2 (s r) y) := by
  obtain ⟨uw, iw, sd, iv, wf⟩ := d
  dsimp only at h1 h2 h3 h4
  subst h1 h2 h3 h4
  set d : ScatterDims ⟨2, ![64, b]⟩ ⟨2, ![n, 1]⟩ ⟨2, ![n, b]⟩ := ⟨[1], [0], [0], 1, wf⟩
  have e0 : d.start (ix2 r y) (column s) 0 = ((s r).val : ℤ) := toInt_set (s r)
  have e1 : d.start (ix2 r y) (column s) 1 = 0 := rfl
  have w0 : d.window (ix2 r y) 0 = 0 := rfl
  have w1 : d.window (ix2 r y) 1 = y.val := rfl
  have hs := (s r).isLt
  have hy := y.isLt
  have h : ∀ a : Fin 2, 0 ≤ d.start (ix2 r y) (column s) a + d.window (ix2 r y) a
      ∧ d.start (ix2 r y) (column s) a + d.window (ix2 r y) a < ((![64, b] : Fin 2 → ℕ) a : ℤ) := by
    intro a
    match a with
    | ⟨0, _⟩ => rw [show (⟨0, _⟩ : Fin 2) = 0 from rfl, e0, w0]; simp
    | ⟨1, _⟩ => rw [show (⟨1, _⟩ : Fin 2) = 1 from rfl, e1, w1]; simp
  unfold ScatterDims.resultIdx?
  rw [dif_pos h]
  refine congrArg some (funext fun a => Fin.ext ?_)
  match a with
  | ⟨0, _⟩ => show (d.start (ix2 r y) (column s) 0 + d.window (ix2 r y) 0).toNat = _; rw [e0, w0]; simp
  | ⟨1, _⟩ => show (d.start (ix2 r y) (column s) 1 + d.window (ix2 r y) 1).toNat = _; rw [e1, w1]; simp

/-- The rows of a real matrix added by set into zeros. -/
theorem scatter_rows {n b : ℕ} (d : ScatterDims ⟨2, ![64, b]⟩ ⟨2, ![n, 1]⟩ ⟨2, ![n, b]⟩) (h1 : d.updateWindowDims = [1])
    (h2 : d.insertedWindowDims = [0]) (h3 : d.scatterDimsToOperandDims = [0]) (h4 : d.indexVectorDim = 1) (s : Fin n → Fin 64)
    (z : (⟨2, ![64, b]⟩ : Shape).Idx → EReal) (hz : ∀ i, z i = 0) (v : Fin n → Fin b → ℝ) :
    Host.scatterAdd (F := Ideal) (φ := .f32) d z (column s) (up v) = up (seg s v) := by
  funext i
  show z i + ∑ j ∈ Finset.univ.filter (fun j => d.resultIdx? j (column s) = some i), up v j = _
  rw [hz, zero_add, Finset.sum_filter, sum_idx2]
  obtain ⟨k, y, rfl⟩ : ∃ k y, i = ix2 (n0 := 64) (n1 := b) k y := ⟨i 0, i 1, eq_ix2 i⟩
  simp only [lands d h1 h2 h3 h4, Option.some.injEq, ix2_inj, up, ix2_0, ix2_1, seg]
  rw [← sum_coe]
  refine Finset.sum_congr rfl fun r _ => ?_
  by_cases h : s r = k <;> simp [hot, h]

/-- Where entry `r` of the added vector goes: to the entry of `r`'s set. -/
theorem lands_one {n : ℕ} (d : ScatterDims ⟨1, ![64]⟩ ⟨2, ![n, 1]⟩ ⟨1, ![n]⟩) (h1 : d.updateWindowDims = [])
    (h2 : d.insertedWindowDims = [0]) (h3 : d.scatterDimsToOperandDims = [0]) (h4 : d.indexVectorDim = 1) (s : Fin n → Fin 64)
    (r : Fin n) : d.resultIdx? (ix1 r) (column s) = some (ix1 (s r)) := by
  obtain ⟨uw, iw, sd, iv, wf⟩ := d
  dsimp only at h1 h2 h3 h4
  subst h1 h2 h3 h4
  set d : ScatterDims ⟨1, ![64]⟩ ⟨2, ![n, 1]⟩ ⟨1, ![n]⟩ := ⟨[], [0], [0], 1, wf⟩
  have e0 : d.start (ix1 r) (column s) 0 = ((s r).val : ℤ) := toInt_set (s r)
  have w0 : d.window (ix1 r) 0 = 0 := rfl
  have hs := (s r).isLt
  have h : ∀ a : Fin 1, 0 ≤ d.start (ix1 r) (column s) a + d.window (ix1 r) a
      ∧ d.start (ix1 r) (column s) a + d.window (ix1 r) a < ((![64] : Fin 1 → ℕ) a : ℤ) := by
    intro a
    match a with
    | ⟨0, _⟩ => rw [show (⟨0, _⟩ : Fin 1) = 0 from rfl, e0, w0]; simp
  unfold ScatterDims.resultIdx?
  rw [dif_pos h]
  refine congrArg some (funext fun a => Fin.ext ?_)
  match a with
  | ⟨0, _⟩ => show (d.start (ix1 r) (column s) 0 + d.window (ix1 r) 0).toNat = _; rw [e0, w0]; simp

/-- Ones added by set into zeros: the number of rows of each set. -/
theorem scatter_ones {n : ℕ} (d : ScatterDims ⟨1, ![64]⟩ ⟨2, ![n, 1]⟩ ⟨1, ![n]⟩) (h1 : d.updateWindowDims = [])
    (h2 : d.insertedWindowDims = [0]) (h3 : d.scatterDimsToOperandDims = [0]) (h4 : d.indexVectorDim = 1) (s : Fin n → Fin 64)
    (z : (⟨1, ![64]⟩ : Shape).Idx → EReal) (hz : ∀ i, z i = 0) (o : (⟨1, ![n]⟩ : Shape).Idx → EReal) (ho : ∀ i, o i = 1) :
    Host.scatterAdd (F := Ideal) (φ := .f32) d z (column s) o = fun i => ((cnt s (i 0) : ℝ) : EReal) := by
  funext i
  show z i + ∑ j ∈ Finset.univ.filter (fun j => d.resultIdx? j (column s) = some i), o j = _
  rw [hz, zero_add, Finset.sum_filter, sum_idx1]
  obtain ⟨k, rfl⟩ : ∃ k, i = ix1 (n0 := 64) k := ⟨i 0, eq_ix1 i⟩
  simp only [lands_one d h1 h2 h3 h4, Option.some.injEq, ho, cnt]
  rw [← sum_coe]
  refine Finset.sum_congr rfl fun r _ => ?_
  by_cases h : s r = k
  · rw [if_pos (by rw [h])]; simp [hot, h]
  · rw [if_neg (fun e => h (congrFun e 0))]; simp [hot, h]

end Cert.ReferenceIdeal.Value

end
-- ==== Proof.ReferenceIdeal.Stages.lean ====
module

public import proofs.«01_k».proof.Proof.ReferenceIdeal.Scatter
public import proofs.«01_k».proof.Proof.Gen.ReferenceIdeal
public import Idealize.ShloMosaic.Lib.Routing.Ops
public import Idealize.ShloMosaic.Lib.IdealHost

@[expose] public section

set_option maxRecDepth 16384

noncomputable section

/-! # The reference, stage by stage

Each stage as the reference's own operations, and its value from real arguments. -/

namespace Cert.ReferenceIdeal.Value

open Cert.ReferenceIdeal Cert.ReferenceIdeal.Gen Cert.Maths
open Idealize.ShloMosaic Idealize.ShloMosaic.Pointwise

variable (x : FVec Ideal S100000x128 .f32) (b : IVec S100000 32) (w1 : FVec Ideal S128x128 .f32) (b1 : FVec Ideal S128 .f32)
  (w2 : FVec Ideal S128x8 .f32) (b2 : FVec Ideal S8 .f32)

/-- A vector along every row. -/
def rows (v : FVec Ideal S128 .f32) : FVec Ideal S100000x128 .f32 :=
  broadcastInDim S100000x128 ![0, 1] bcast_S1x128_S100000x128_0_1 (broadcastInDim S1x128 ![1] bcast_S128_S1x128_1 v)
def zeros : FVec Ideal S100000x128 .f32 := broadcastInDim S100000x128 ![] bcast_S_S100000x128 (constant S_ .f32 0x00000000#32)

def features : FVec Ideal S100000x8 .f32 :=
  addf (Host.dotGeneral dot_S100000x128_S128x8_S100000x8_1_0_0_1_n_n none
      (maximumf (addf (Host.dotGeneral dot_S100000x128_S128x128_S100000x128_1_0_0_1_n_n none x w1) (rows b1)) zeros) w2)
    (broadcastInDim S100000x8 ![0, 1] bcast_S1x8_S100000x8_0_1 (broadcastInDim S1x8 ![1] bcast_S8_S1x8_1 b2))

def joined (f : FVec Ideal S100000x8 .f32) : FVec Ideal S100000x136 .f32 :=
  concatenate S100000x136 1 [⟨S100000x128, x⟩, ⟨S100000x8, f⟩] concatenates_S100000x128_S100000x8_S100000x136_d1

/-- The rows' sets as a column, plain and with a negative one counted from the end. -/
def index : IVec S100000x1 32 := broadcastInDim S100000x1 ![0] bcast_S100000_S100000x1_0 b
def wrapped : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 64#32))) b)

def sizes : FVec Ideal S64 .f32 :=
  maximumf (Host.scatterAdd scatter_S64_S100000x1_S100000_n_0_0_1 (broadcastInDim S64 ![] bcast_S_S64 (constant S_ .f32 0x00000000#32))
      (index b) (broadcastInDim S100000 ![] bcast_S_S100000 (constant S_ .f32 0x3F800000#32)))
    (broadcastInDim S64 ![] bcast_S_S64 (constant S_ .f32 0x3F800000#32))

def layer1 (c : FVec Ideal S100000x136 .f32) (g l : FVec Ideal S136x128 .f32) (gb : FVec Ideal S128 .f32) : FVec Ideal S100000x128 .f32 :=
  maximumf (subf (addf (Host.dotGeneral dot_S100000x136_S136x128_S100000x128_1_0_0_1_n_n none c g) (rows gb))
    (Host.gather gather_S64x128_S100000x1_S100000x128_1_0_n_n_0_1_1128
      (Host.dotGeneral dot_S64x136_S136x128_S64x128_1_0_0_1_n_n none
        (Host.divf (Host.scatterAdd scatter_S64x136_S100000x1_S100000x136_1_0_0_1
            (broadcastInDim S64x136 ![] bcast_S_S64x136 (constant S_ .f32 0x00000000#32)) (index b) c)
          (broadcastInDim S64x136 ![0, 1] bcast_S64x1_S64x136_0_1 (broadcastInDim S64x1 ![0] bcast_S64_S64x1_0 (sizes b)))) l)
      (wrapped b))) zeros

def layer2 (y : FVec Ideal S100000x128 .f32) (g l : FVec Ideal S128x128 .f32) (gb : FVec Ideal S128 .f32) : FVec Ideal S100000x128 .f32 :=
  subf (addf (Host.dotGeneral dot_S100000x128_S128x128_S100000x128_1_0_0_1_n_n none y g) (rows gb))
    (Host.gather gather_S64x128_S100000x1_S100000x128_1_0_n_n_0_1_1128
      (Host.dotGeneral dot_S64x128_S128x128_S64x128_1_0_0_1_n_n none
        (Host.divf (Host.scatterAdd scatter_S64x128_S100000x1_S100000x128_1_0_0_1
            (broadcastInDim S64x128 ![] bcast_S_S64x128 (constant S_ .f32 0x00000000#32)) (index b) y)
          (broadcastInDim S64x128 ![0, 1] bcast_S64x1_S64x128_0_1 (broadcastInDim S64x1 ![0] bcast_S64_S64x1_0 (sizes b)))) l)
      (wrapped b))

def rowsCount : FVec Ideal S128 .f32 := broadcastInDim S128 ![] bcast_S_S128 (constant S_ .f32 0x47C35000#32)

/-- The mean of a matrix's columns. -/
def average (z : FVec Ideal S100000x128 .f32) : FVec Ideal S128 .f32 :=
  Host.divf (Host.reduceAdd z (constant S_ .f32 0x00000000#32) reducesTo_S100000x128_S128_d0 h_S_) rowsCount

def normalized (z : FVec Ideal S100000x128 .f32) (ga be : FVec Ideal S128 .f32) : FVec Ideal S100000x128 .f32 :=
  addf x (addf (mulf (Host.divf (subf z (rows (average z)))
      (rows (Host.sqrt (addf (average (mulf (subf z (rows (average z))) (subf z (rows (average z)))))
        (Host.divf (broadcastInDim S128 ![] bcast_S_S128 (constant S_ .f32 0x3F800000#32)) rowsCount))))) (rows ga)) (rows be))

/-! ## Their values -/

section
variable (x : Fin 100000 → Fin 128 → ℝ) (s : Fin 100000 → Fin 64) (w1 : Fin 128 → Fin 128 → ℝ) (b1 : Fin 128 → ℝ)
  (w2 : Fin 128 → Fin 8 → ℝ) (b2 : Fin 8 → ℝ) (f : Fin 100000 → Fin 8 → ℝ)

theorem rows_apply (v : FVec Ideal S128 .f32) (n : Fin 100000) (j : Fin 128) : rows v (ix2 n j) = v (ix1 j) := by
  pointwise [rows]

theorem zeros_apply (i : S100000x128.Idx) : zeros i = 0 := by
  pointwise [zeros]

theorem features_up : features (up x) (up w1) (vec b1) (up w2) (vec b2) = up (feat x w1 b1 w2 b2) := by
  funext i
  pointwise [features, rows, zeros, up, vec]
  simp only [← EReal.coe_mul, ← EReal.coe_add, ← EReal.coe_zero, sum_coe, max_coe, feat]

theorem joined_up : joined (up x) (up f) = up fun n => cat (x n) (f n) := by
  funext i
  pointwise [joined, up, cat]
  split <;> rfl

theorem index_sets : index (sets s) = column s := by
  funext i
  pointwise [index, sets, column]

theorem wrapped_sets : wrapped (sets s) = column s := by
  funext i
  pointwise [wrapped, sets, column]
  have h : ∀ a : Fin 64, (BitVec.ofNat 32 a.val).slt 0#32 = false := by decide
  have h := h (s (i 0))
  simp [Scalar.select, IntOp.cmpi, h]

theorem sizes_val : sizes (sets s) = vec (size (cnt s)) := by
  unfold sizes
  rw [index_sets, scatter_ones _ rfl rfl rfl rfl s _ (fun i => by pointwise) _ (fun i => by pointwise)]
  funext i
  pointwise [vec, size]
  simp only [← EReal.coe_one, max_coe]

theorem gather_rows (M : Fin 64 → Fin 128 → ℝ) :
    Host.gather gather_S64x128_S100000x1_S100000x128_1_0_n_n_0_1_1128 (up M : S64x128.Idx → EReal) (column s) = up fun n j => M (s n) j := by
  funext i
  obtain ⟨n, j, rfl⟩ : ∃ n j, i = ValueIdx.ix2 (n0 := 100000) (n1 := 128) n j := ⟨i 0, i 1, ValueIdx.eq_ix2 i⟩
  exact Routing.gather_row _ rfl rfl rfl rfl rfl (up M : S64x128.Idx → EReal) (column s) n j (s n) rfl (by decide)

theorem layer1_up (g l : Fin 136 → Fin 128 → ℝ) (gb : Fin 128 → ℝ) :
    layer1 (sets s) (up fun n => cat (x n) (f n)) (up g) (up l) (vec gb)
      = up (act x f s g (c1 (seg s x) (seg s f) (cnt s) l gb)) := by
  unfold layer1
  rw [index_sets, wrapped_sets, sizes_val, scatter_rows _ rfl rfl rfl rfl s _ (fun i => by pointwise)]
  have h : Host.dotGeneral (F := Ideal) (φ₁ := .f32) (φ₂ := .f32) dot_S64x136_S136x128_S64x128_1_0_0_1_n_n none
      (Host.divf (up (seg s fun n => cat (x n) (f n)))
        (broadcastInDim S64x136 ![0, 1] bcast_S64x1_S64x136_0_1 (broadcastInDim S64x1 ![0] bcast_S64_S64x1_0 (vec (size (cnt s)))))) (up l)
      = up fun k j => ∑ i, seg s (fun n => cat (x n) (f n)) k i / size (cnt s) k * l i j := by
    funext i
    pointwise [up, vec]
    simp only [size, div_max, ← EReal.coe_mul, sum_coe]
  rw [h, gather_rows]
  funext i
  pointwise [rows, zeros, up, vec]
  simp only [← EReal.coe_mul, sum_coe, ← EReal.coe_add, ← EReal.coe_sub, ← EReal.coe_zero, max_coe]
  exact congrArg _ (act_eq x f s g l (cnt s) gb (i 0) (i 1))

theorem layer2_up (y : Fin 100000 → Fin 128 → ℝ) (g l : Fin 128 → Fin 128 → ℝ) (gb : Fin 128 → ℝ) :
    layer2 (sets s) (up y) (up g) (up l) (vec gb) = up (lin y s g (c2 (seg s y) (cnt s) l gb)) := by
  unfold layer2
  rw [index_sets, wrapped_sets, sizes_val, scatter_rows _ rfl rfl rfl rfl s _ (fun i => by pointwise)]
  have h : Host.dotGeneral (F := Ideal) (φ₁ := .f32) (φ₂ := .f32) dot_S64x128_S128x128_S64x128_1_0_0_1_n_n none
      (Host.divf (up (seg s y))
        (broadcastInDim S64x128 ![0, 1] bcast_S64x1_S64x128_0_1 (broadcastInDim S64x1 ![0] bcast_S64_S64x1_0 (vec (size (cnt s)))))) (up l)
      = up fun k j => ∑ i, seg s y k i / size (cnt s) k * l i j := by
    funext i
    pointwise [up, vec]
    simp only [size, div_max, ← EReal.coe_mul, sum_coe]
  rw [h, gather_rows]
  funext i
  pointwise [rows, up, vec]
  simp only [← EReal.coe_mul, sum_coe, ← EReal.coe_add, ← EReal.coe_sub]
  exact congrArg _ (lin_sub y s g l (cnt s) gb (i 0) (i 1))

theorem average_up (z : Fin 100000 → Fin 128 → ℝ) : average (up z) = vec (mean z) := by
  funext i
  pointwise [average, rowsCount, up, vec]
  simp only [word_rows, sum_coe]
  exact div_coe (by norm_num) _

theorem normalized_up (z : Fin 100000 → Fin 128 → ℝ) (ga : Fin 128 → ℝ) (be : Fin 128 → EReal) :
    normalized (up x) (up z) (vec ga) (plain be) = fun i =>
      ((x (i 0) (i 1) : ℝ) : EReal)
        + ((((z (i 0) (i 1) - mean z (i 1)) / Real.sqrt (var z (i 1) + 1 / 100000) * ga (i 1) : ℝ) : EReal) + be (i 1)) := by
  have h : mulf (F := Ideal) (φ := .f32) (subf (up z) (rows (vec (mean z)))) (subf (up z) (rows (vec (mean z))))
      = up fun n j => (z n j - mean z j) * (z n j - mean z j) := by
    funext i
    pointwise [rows, up, vec]
    simp only [← EReal.coe_mul, ← EReal.coe_sub]
  unfold normalized
  rw [average_up, h, average_up]
  funext i
  pointwise [rows, rowsCount, up, vec, plain]
  have hv : ((mean (fun n j => (z n j - mean z j) * (z n j - mean z j)) (i 1) : ℝ) : EReal) + Ideal.div 1 ((100000 : ℝ) : EReal)
      = ((var z (i 1) + 1 / 100000 : ℝ) : EReal) := by
    rw [← EReal.coe_one, div_coe (by norm_num), ← EReal.coe_add]
    rfl
  rw [word_rows, hv, sqrt_coe (var_pos z (i 1)), ← EReal.coe_sub, div_coe (Real.sqrt_pos.2 (var_pos z (i 1))).ne', ← EReal.coe_mul]

end

end Cert.ReferenceIdeal.Value

end
-- ==== Proof.ReferenceIdeal.Result.lean ====
module

public import proofs.«01_k».proof.Proof.ReferenceIdeal.Stages
public import proofs.«01_k».proof.Proof.Gen.ReferenceIdeal.Run
public import Idealize.ShloMosaic.Lib.Quiescent

@[expose] public section

set_option maxRecDepth 16384

noncomputable section

/-! # The reference's result from real arguments -/

namespace Cert.ReferenceIdeal.Value

open Cert.ReferenceIdeal Cert.ReferenceIdeal.Gen Cert.Maths
open Idealize.ShloMosaic Idealize.ShloMosaic.TcCoe Idealize.SL.Sem

/-- The result is its stages, one after the other. -/
theorem result_stages (m : (ℓ : Loc nD τ sig) → Buf (Elt Ideal) ℓ) (c : Dev nD) :
    res_main_v84 (F := Ideal) m c
      = normalized (m ((c.tc : Thread nD τ).loc main_arg0))
          (layer2 (m ((c.tc : Thread nD τ).loc main_arg2))
            (layer1 (m ((c.tc : Thread nD τ).loc main_arg2))
              (joined (m ((c.tc : Thread nD τ).loc main_arg0))
                (features (m ((c.tc : Thread nD τ).loc main_arg0)) (m ((c.tc : Thread nD τ).loc main_arg5))
                  (m ((c.tc : Thread nD τ).loc main_arg6)) (m ((c.tc : Thread nD τ).loc main_arg7)) (m ((c.tc : Thread nD τ).loc main_arg8))))
              (m ((c.tc : Thread nD τ).loc main_arg9)) (m ((c.tc : Thread nD τ).loc main_arg11)) (m ((c.tc : Thread nD τ).loc main_arg10)))
            (m ((c.tc : Thread nD τ).loc main_arg12)) (m ((c.tc : Thread nD τ).loc main_arg14)) (m ((c.tc : Thread nD τ).loc main_arg13)))
          (m ((c.tc : Thread nD τ).loc main_arg15)) (m ((c.tc : Thread nD τ).loc main_arg16)) := by
  unfold res_main_v84
  rfl

section
variable (x : Fin 100000 → Fin 128 → ℝ) (s : Fin 100000 → Fin 64) (w1 : Fin 128 → Fin 128 → ℝ) (b1 : Fin 128 → ℝ)
  (w2 : Fin 128 → Fin 8 → ℝ) (b2 : Fin 8 → ℝ) (g l : Fin 136 → Fin 128 → ℝ) (gb : Fin 128 → ℝ) (g2 : Fin 128 → Fin 128 → ℝ)
  (g2b : Fin 128 → ℝ) (l2 : Fin 128 → Fin 128 → ℝ) (ga : Fin 128 → ℝ) (be : Fin 128 → EReal)

theorem stages_up :
    normalized (up x) (layer2 (sets s) (layer1 (sets s) (joined (up x) (features (up x) (up w1) (vec b1) (up w2) (vec b2)))
        (up g) (up l) (vec gb)) (up g2) (up l2) (vec g2b)) (vec ga) (plain be)
      = fun i => ((x (i 0) (i 1) : ℝ) : EReal)
        + (((((second x s w1 b1 w2 b2 g l gb g2 g2b l2 (i 0) (i 1) - mean (second x s w1 b1 w2 b2 g l gb g2 g2b l2) (i 1))
          / Real.sqrt (var (second x s w1 b1 w2 b2 g l gb g2 g2b l2) (i 1) + 1 / 100000) * ga (i 1) : ℝ) : EReal)) + be (i 1)) := by
  rw [features_up, joined_up, layer1_up, layer2_up, normalized_up]
  rfl

end

/-- The run leaves the arguments, and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16)) ∧ r.2.sem = fun _ => 0) :=
  (θ_run defs _ _).mono (fun _ h => ⟨fun c => (h c).2, sem_eq_zero_of_no_sems rfl _⟩) (run m ρ)

end Cert.ReferenceIdeal.Value

end
-- ==== Proof.Inputs.lean ====
module

public import Idealize.ShloMosaic.Lib.ReduceAll
public import Idealize.ShloMosaic.Lib.Pointwise
public import proofs.«01_k».proof.Proof.Gen.Pre_inputs_ok
public import proofs.«01_k».proof.Proof.Maths.Lift

@[expose] public section

set_option maxRecDepth 16384

noncomputable section

/-! # What the precondition says of the arguments -/

namespace Cert.Pre_inputs_ok.Value

open Cert.Pre_inputs_ok Cert.Pre_inputs_ok.Gen Cert.Maths
open Idealize.ShloMosaic Idealize.ShloMosaic.Pointwise

theorem ofBool_one {b : Bool} (h : BitVec.ofBool b = 1#1) : b = true := by revert h; cases b <;> decide

/-- The test of one float array: it holds real numbers. -/
theorem real_of_test {sh : Shape} {axes : List (Fin sh.rank)} (a : FVec Ideal sh .f32)
    (hb : S_.BroadcastsInDim sh (![] : Fin 0 → Fin sh.rank)) (v : IVec S_ 1) (hr : sh.ReducesTo axes S_) (hs : 0 < S_.numel) (j : S_.Idx)
    (h : Host.reduce IntOp.andi (cmpf .olt (Host.absf a) (broadcastInDim sh ![] hb (constant S_ .f32 0x7F800000#32))) v hr hs j = 1#1)
    (i : sh.Idx) : a i = (((a i).toReal : ℝ) : EReal) := by
  have : Subsingleton S_.Idx := ⟨fun a b => funext fun k => k.elim0⟩
  have := Host.reduce_andi_all _ _ hr hs j h i
  pointwise at this
  have h2 : FloatOps.absf (F := Ideal) (a i) < Ideal.ofBits FTy.f32 0x7F800000#32 := of_decide_eq_true (ofBool_one this)
  rw [show Ideal.ofBits FTy.f32 0x7F800000#32 = ⊤ by simp [Ideal.ofBits, Ideal.ieee]] at h2
  refine (EReal.coe_toReal ?_ ?_).symm <;> intro e <;> rw [e] at h2 <;> exact absurd h2 (by simp [FloatOps.absf])

variable (a0 : FVec Ideal S100000x128 .f32) (a1 : IVec S2x1600000 32) (a2 : IVec S100000 32) (a3 a4 : IVec S65 32) (a5 : FVec Ideal S128x128 .f32)
  (a6 : FVec Ideal S128 .f32) (a7 : FVec Ideal S128x8 .f32) (a8 : FVec Ideal S8 .f32) (a9 : FVec Ideal S136x128 .f32)
  (a10 : FVec Ideal S128 .f32) (a11 : FVec Ideal S136x128 .f32) (a12 : FVec Ideal S128x128 .f32) (a13 : FVec Ideal S128 .f32)
  (a14 : FVec Ideal S128x128 .f32) (a15 a16 : FVec Ideal S128 .f32)

theorem matrix {a b : ℕ} (A : (⟨2, ![a, b]⟩ : Shape).Idx → EReal) (h : ∀ i, A i = (((A i).toReal : ℝ) : EReal)) :
    ∃ R : Fin a → Fin b → ℝ, A = up R :=
  ⟨fun n j => (A (ix2 n j)).toReal, funext fun i => (h i).trans (congrArg (fun k => (((A k).toReal : ℝ) : EReal))
    (funext fun k => match k with | 0 => rfl | 1 => rfl))⟩

theorem vector {b : ℕ} (A : (⟨1, ![b]⟩ : Shape).Idx → EReal) (h : ∀ i, A i = (((A i).toReal : ℝ) : EReal)) :
    ∃ R : Fin b → ℝ, A = vec R :=
  ⟨fun j => (A (ix1 j)).toReal, funext fun i => (h i).trans (congrArg (fun k => (((A k).toReal : ℝ) : EReal))
    (funext fun k => match k with | 0 => rfl))⟩

/-- The two tests of the rows' sets: each is one of 64. -/
theorem sets_of_tests (a : IVec S100000 32) {j : S_.Idx} {v v' : IVec S_ 1} (hb : S_.BroadcastsInDim S100000 (![] : Fin 0 → Fin S100000.rank))
    (hr : S100000.ReducesTo [0] S_) (hs : 0 < S_.numel)
    (h0 : Host.reduce IntOp.andi (cmpi .sge a (broadcastInDim S100000 ![] hb (constantI S_ 32 0#32))) v hr hs j = 1#1)
    (h1 : Host.reduce IntOp.andi (cmpi .slt a (broadcastInDim S100000 ![] hb (constantI S_ 32 64#32))) v' hr hs j = 1#1) :
    ∃ s, a = sets s := by
  have : Subsingleton S_.Idx := ⟨fun a b => funext fun k => k.elim0⟩
  have key : ∀ i, (a i).toNat < 64 := fun i => by
    have e0 := Host.reduce_andi_all _ _ hr hs j h0 i
    have e1 := Host.reduce_andi_all _ _ hr hs j h1 i
    pointwise at e0 e1
    have l0 : (0#32).sle (a i) = true := ofBool_one e0
    have l1 : (a i).slt 64#32 = true := ofBool_one e1
    rw [BitVec.sle_iff_toInt_le] at l0
    rw [BitVec.slt_iff_toInt_lt] at l1
    have z : (0#32).toInt = 0 := by decide
    have z' : (64#32).toInt = 64 := by decide
    rw [z, BitVec.toInt_eq_toNat_bmod] at l0
    rw [z', BitVec.toInt_eq_toNat_bmod] at l1
    have := (a i).isLt
    rw [Int.bmod_def] at l0 l1
    split at l0 <;> omega
  exact ⟨fun n => ⟨(a (ix1 n)).toNat, key _⟩, funext fun i => by
    rw [show i = ix1 (i 0) from funext fun k => match k with | 0 => rfl]
    exact BitVec.eq_of_toNat_eq (by simp [sets])⟩

/-- The arguments of the precondition: every float but the last one is real, every number of a set is below 64. -/
theorem inputs (h : fn (F := Ideal) a0 a1 a2 a3 a4 a5 a6 a7 a8 a9 a10 a11 a12 a13 a14 a15 a16 = fun _ => 1#1) :
    ((∃ x, a0 = up x) ∧ ∃ s, a2 = sets s) ∧ ((∃ w1, a5 = up w1) ∧ (∃ b1, a6 = vec b1) ∧ (∃ w2, a7 = up w2) ∧ ∃ b2, a8 = vec b2)
      ∧ ((∃ g, a9 = up g) ∧ (∃ gb, a10 = vec gb) ∧ ∃ l, a11 = up l)
      ∧ ((∃ g2, a12 = up g2) ∧ (∃ g2b, a13 = vec g2b) ∧ ∃ l2, a14 = up l2) ∧ ∃ ga, a15 = vec ga := by
  have h := congrFun h (fun k => k.elim0)
  dsimp only [fn, fn_part1, fn_part2, fn_part3] at h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h0⟩ := IntOp.andi_eq_one.1 h
  obtain ⟨hlo, hhi⟩ := IntOp.andi_eq_one.1 h
  refine ⟨⟨matrix a0 (real_of_test a0 _ _ _ _ _ h0), sets_of_tests a2 _ _ _ hlo hhi⟩,
    ⟨matrix a5 (real_of_test a5 _ _ _ _ _ h5), vector a6 (real_of_test a6 _ _ _ _ _ h6), matrix a7 (real_of_test a7 _ _ _ _ _ h7),
      vector a8 (real_of_test a8 _ _ _ _ _ h8)⟩,
    ⟨matrix a9 (real_of_test a9 _ _ _ _ _ h9), vector a10 (real_of_test a10 _ _ _ _ _ h10), matrix a11 (real_of_test a11 _ _ _ _ _ h11)⟩,
    ⟨matrix a12 (real_of_test a12 _ _ _ _ _ h12), vector a13 (real_of_test a13 _ _ _ _ _ h13), matrix a14 (real_of_test a14 _ _ _ _ _ h14)⟩,
    vector a15 (real_of_test a15 _ _ _ _ _ h15)⟩

end Cert.Pre_inputs_ok.Value
-- ==== Proof.KernelIdeal.Payloads0.lean ====
module

public import proofs.«01_k».proof.Proof.KernelIdeal.Blocks
public import proofs.«01_k».proof.Proof.Gen.KernelIdeal
public import proofs.«01_k».proof.Proof.Maths.Lift

@[expose] public section

set_option maxRecDepth 16384

noncomputable section

/-! # What a step of the first kernel computes from real blocks -/

namespace Cert.KernelIdeal.Value

open Cert.KernelIdeal Cert.KernelIdeal.Gen Cert.KernelIdeal.Run Cert.Maths
open Idealize.ShloMosaic Idealize.ShloMosaic.Pointwise

variable (x : Fin 10000 → Fin 128 → ℝ) (s : Fin 10000 → Fin 64) (w1 : Fin 128 → Fin 128 → ℝ) (b1 : Fin 128 → ℝ)
  (w2 : Fin 128 → Fin 8 → ℝ) (b2 : Fin 8 → ℝ)

theorem feat_pay : k0_pay4 (F := Ideal) (up x) (up w1) (row b1) (up w2) (row b2) = up (feat x w1 b1 w2 b2) := by
  funext i
  pointwise [k0_pay4, up, row]
  simp only [← EReal.coe_mul, ← EReal.coe_add, ← EReal.coe_zero, sum_coe, max_coe, feat]

theorem hot_pay : k0_pay5 (F := Ideal) (column s) = up fun n k => hot (s n) k := by
  funext i
  pointwise [k0_pay5, up, column]
  exact hot_word _ _

theorem fv0_up : fv0 (F := Ideal) (up x) (up w1) (row b1) (up w2) (row b2) = up (feat x w1 b1 w2 b2) := by
  rw [fv0_eq, feat_pay]

theorem sx0_up : sx0 (F := Ideal) (up x) (column s) = up (seg s x) := by
  rw [sx0_eq]
  funext i
  unfold k0_pay6
  rw [hot_pay]
  pointwise [up]
  simp only [← EReal.coe_mul, sum_coe, seg]

theorem sx0Add_up (y : Fin 64 → Fin 128 → ℝ) :
    sx0Add (F := Ideal) (up x) (column s) (up y) = up fun k j => y k j + seg s x k j := by
  rw [sx0Add_eq, ← sx0_eq, sx0_up]
  funext i
  pointwise [k0_pay1, up]
  simp only [← EReal.coe_add]

theorem sf0_up : sf0 (F := Ideal) (up x) (column s) (up w1) (row b1) (up w2) (row b2) = up (seg s (feat x w1 b1 w2 b2)) := by
  rw [sf0_eq]
  funext i
  unfold k0_pay7
  rw [hot_pay, feat_pay]
  pointwise [up]
  simp only [← EReal.coe_mul, sum_coe, seg]

theorem sf0Add_up (y : Fin 64 → Fin 8 → ℝ) :
    sf0Add (F := Ideal) (up x) (column s) (up w1) (row b1) (up w2) (row b2) (up y)
      = up fun k j => y k j + seg s (feat x w1 b1 w2 b2) k j := by
  rw [sf0Add_eq, ← sf0_eq, sf0_up]
  funext i
  pointwise [k0_pay2, up]
  simp only [← EReal.coe_add]

theorem cn0_up : cn0 (F := Ideal) (column s) = (up fun k _ => cnt s k : S64x1.Idx → EReal) := by
  rw [cn0_eq]
  funext i
  unfold k0_pay8
  rw [hot_pay]
  pointwise [up]
  simp only [← EReal.coe_mul, sum_coe, cnt]

theorem cn0Add_up (y : Fin 64 → ℝ) :
    cn0Add (F := Ideal) (column s) (up fun k _ => y k) = (up fun k _ => y k + cnt s k : S64x1.Idx → EReal) := by
  rw [cn0Add_eq, ← cn0_eq, cn0_up]
  funext i
  pointwise [k0_pay3, up]
  simp only [← EReal.coe_add]

end Cert.KernelIdeal.Value

end
-- ==== Proof.Maths.Parts.lean ====
module

public import proofs.«01_k».proof.Proof.Maths.Lift

@[expose] public section

noncomputable section

/-! # The rows in ten parts

A kernel takes the 100000 rows in ten parts of 10000. A sum over all rows is the sum over the parts of the sum over a part's rows. -/

namespace Cert.Maths

open Idealize.ShloMosaic

/-- Row `n` of part `t`. -/
def rowOf (t : ℕ) (n : Fin 10000) : Fin 100000 := ⟨(10000 * t + n.val) % 100000, Nat.mod_lt _ (by decide)⟩
/-- Part `t` of a list of rows. -/
def part {α : Type} (a : Fin 100000 → α) (t : ℕ) (n : Fin 10000) : α := a (rowOf t n)
/-- What `f` adds up to over the parts up to number `n`. -/
def upTo (f : ℕ → ℝ) (n : ℕ) : ℝ := ∑ t ∈ Finset.range (n + 1), f t

theorem upTo_zero (f : ℕ → ℝ) : upTo f 0 = f 0 := by simp [upTo]
theorem upTo_succ (f : ℕ → ℝ) (n : ℕ) : upTo f n + f (n + 1) = upTo f (n + 1) := (Finset.sum_range_succ f (n + 1)).symm

theorem rowOf_val {t : ℕ} (h : t < 10) (n : Fin 10000) : (rowOf t n).val = 10000 * t + n.val :=
  Nat.mod_eq_of_lt (by omega)

/-- A sum over all rows, part by part. -/
theorem upTo_parts (f : Fin 100000 → ℝ) : upTo (fun t => ∑ n, part f t n) 9 = ∑ n, f n := by
  rw [upTo, Finset.sum_range, ← (finProdFinEquiv (m := 10) (n := 10000)).sum_comp f, Fintype.sum_prod_type]
  refine Finset.sum_congr rfl fun t _ => Finset.sum_congr rfl fun n _ => congrArg f (Fin.ext ?_)
  rw [rowOf_val t.isLt, finProdFinEquiv_apply_val]
  exact Nat.add_comm _ _

theorem seg_parts {b : ℕ} (s : Fin 100000 → Fin 64) (v : Fin 100000 → Fin b → ℝ) (k : Fin 64) (j : Fin b) :
    upTo (fun t => seg (part s t) (part v t) k j) 9 = seg s v k j := upTo_parts fun n => hot (s n) k * v n j
theorem cnt_parts (s : Fin 100000 → Fin 64) (k : Fin 64) : upTo (fun t => cnt (part s t) k) 9 = cnt s k := upTo_parts fun n => hot (s n) k
theorem gram_parts (y : Fin 100000 → Fin 128 → ℝ) (i j : Fin 128) : upTo (fun t => gram (part y t) i j) 9 = gram y i j :=
  upTo_parts fun n => y n i * y n j

theorem feat_part (x : Fin 100000 → Fin 128 → ℝ) (w1 : Fin 128 → Fin 128 → ℝ) (b1 : Fin 128 → ℝ) (w2 : Fin 128 → Fin 8 → ℝ)
    (b2 : Fin 8 → ℝ) (t : ℕ) : feat (part x t) w1 b1 w2 b2 = part (feat x w1 b1 w2 b2) t := rfl
theorem act_part (x : Fin 100000 → Fin 128 → ℝ) (f : Fin 100000 → Fin 8 → ℝ) (s : Fin 100000 → Fin 64) (g : Fin 136 → Fin 128 → ℝ)
    (d : Fin 64 → Fin 128 → ℝ) (t : ℕ) : act (part x t) (part f t) (part s t) g d = part (act x f s g d) t := rfl
theorem lin_part (y : Fin 100000 → Fin 128 → ℝ) (s : Fin 100000 → Fin 64) (g : Fin 128 → Fin 128 → ℝ) (d : Fin 64 → Fin 128 → ℝ)
    (t : ℕ) : lin (part y t) (part s t) g d = part (lin y s g d) t := rfl

/-! ## A part of a buffer -/

theorem up_rows {b : ℕ} (x : Fin 100000 → Fin b → ℝ) {t : ℕ} (ht : t < 10) (j : (⟨2, ![100000, b]⟩ : Shape).Idx)
    (i : (⟨2, ![10000, b]⟩ : Shape).Idx) (h0 : (j 0).val = 10000 * t + (i 0).val) (h1 : (j 1).val = (i 1).val) :
    up x j = up (part x t) i :=
  congrArg _ (congrArg₂ x (Fin.ext (h0.trans (rowOf_val ht (i 0)).symm)) (Fin.ext h1))

theorem rows_at {α : Type} {b : ℕ} (G : Fin 100000 → Fin b → α) {t : ℕ} (ht : t < 10) (j : (⟨2, ![100000, b]⟩ : Shape).Idx)
    (i : (⟨2, ![10000, b]⟩ : Shape).Idx) (h0 : (j 0).val = 10000 * t + (i 0).val) (h1 : (j 1).val = (i 1).val) :
    part G t (i 0) (i 1) = G (j 0) (j 1) :=
  (congrArg₂ G (Fin.ext (h0.trans (rowOf_val ht (i 0)).symm)) (Fin.ext h1)).symm

theorem column_rows (s : Fin 100000 → Fin 64) {t : ℕ} (ht : t < 10) (j : (⟨2, ![100000, 1]⟩ : Shape).Idx)
    (i : (⟨2, ![10000, 1]⟩ : Shape).Idx) (h0 : (j 0).val = 10000 * t + (i 0).val) : column s j = column (part s t) i :=
  congrArg (fun n => BitVec.ofNat 32 (s n).val) (Fin.ext (h0.trans (rowOf_val ht (i 0)).symm))

/-- Two indices of a matrix with the same entries are the same. -/
theorem same_index {a b : ℕ} {α : Type} (X : (⟨2, ![a, b]⟩ : Shape).Idx → α) (j i : (⟨2, ![a, b]⟩ : Shape).Idx)
    (h0 : (j 0).val = (i 0).val) (h1 : (j 1).val = (i 1).val) : X j = X i :=
  congrArg X (funext fun k => Fin.ext (by match k with | 0 => exact h0 | 1 => exact h1))

end Cert.Maths
-- ==== Proof.KernelIdeal.Values0.lean ====
module

public import Idealize.ShloMosaic.Lib.Pipeline.ValueKit
public import proofs.«01_k».proof.Proof.KernelIdeal.Payloads0
public import proofs.«01_k».proof.Proof.KernelIdeal.Region0
public import proofs.«01_k».proof.Proof.Maths.Parts

@[expose] public section

set_option maxRecDepth 16384

noncomputable section

/-! # What the first kernel leaves in its arrays -/

namespace Cert.KernelIdeal.Value

open Cert.KernelIdeal Cert.KernelIdeal.Gen Cert.KernelIdeal.Run Cert.Maths
open Idealize.ShloMosaic Idealize.ShloMosaic.TcCoe Idealize.ShloMosaic.Pipeline

variable (V : (c : Dev nD) → (b : Ref sig .tc) → Buf (Elt Ideal) ((c : Thread nD τ).loc b)) (c : Dev nD)
variable {x : Fin 100000 → Fin 128 → ℝ} {s : Fin 100000 → Fin 64} {w1 : Fin 128 → Fin 128 → ℝ} {b1 : Fin 128 → ℝ}
  {w2 : Fin 128 → Fin 8 → ℝ} {b2 : Fin 8 → ℝ}

theorem idx0_0 : ∀ t : Fin cfg0.N, win0_0.index t = ![t.val, 0] := by decide +kernel
theorem idx0_1 : ∀ t : Fin cfg0.N, win0_1.index t = ![t.val, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![t.val, 0] := by decide +kernel

theorem part_lt (t : Fin cfg0.N) : t.val < 10 := lt_of_lt_of_eq t.isLt N_0

theorem in0_0 (h : V c main_arg0 = up x) (t : Fin cfg0.N) : iblk0 V c 0 t = up (part x t.val) := by
  funext i
  blk_simp [iblk0]
  refine (congrFun h _).trans (up_rows x (part_lt t) _ _ ?_ ?_) <;> blk_simp [idx0_0]
  exact Nat.mul_comm _ _ ▸ rfl

theorem in0_1 (h : V c main_v0 = column s) (t : Fin cfg0.N) : iblk0 V c 1 t = column (part s t.val) := by
  funext i
  blk_simp [iblk0]
  refine (congrFun h _).trans (column_rows s (part_lt t) _ _ ?_)
  blk_simp [idx0_1]
  exact Nat.mul_comm _ _ ▸ rfl

theorem in0_2 (t : Fin cfg0.N) : iblk0 V c 2 t = V c main_arg5 := by
  funext i
  blk_simp [iblk0]
  refine same_index (V c main_arg5) _ _ ?_ ?_ <;> blk_simp [idx0_2]

theorem in0_3 (t : Fin cfg0.N) : iblk0 V c 3 t = V c main_v1 := by
  funext i
  blk_simp [iblk0]
  refine same_index (V c main_v1) _ _ ?_ ?_ <;> blk_simp [idx0_3]

theorem in0_4 (t : Fin cfg0.N) : iblk0 V c 4 t = V c main_arg7 := by
  funext i
  blk_simp [iblk0]
  refine same_index (V c main_arg7) _ _ ?_ ?_ <;> blk_simp [idx0_4]

theorem in0_5 (t : Fin cfg0.N) : iblk0 V c 5 t = V c main_v2 := by
  funext i
  blk_simp [iblk0]
  refine same_index (V c main_v2) _ _ ?_ ?_ <;> blk_simp [idx0_5]

section
variable (hx : V c main_arg0 = up x) (hs : V c main_v0 = column s) (hw1 : V c main_arg5 = up w1) (hb1 : V c main_v1 = row b1)
  (hw2 : V c main_arg7 = up w2) (hb2 : V c main_v2 = row b2)
include hx hw1 hb1 hw2 hb2

/-- The features of the rows. -/
theorem out0_6 : (dat0 V c).arrAt 6 cfg0.N = up (feat x w1 b1 w2 b2) := by
  refine (dat0 V c).arrAt_eq_of_covers 6 _ (by decide +kernel) fun t _ y => ?_
  blk_simp
  rw [after0_6, in0_0 V c hx, in0_2, in0_3, in0_4, in0_5, hw1, hb1, hw2, hb2, fv0_up]
  refine (up_rows (feat x w1 b1 w2 b2) (part_lt t) _ y ?_ ?_).symm <;> blk_simp [idx0_6]
  exact Nat.mul_comm _ _ ▸ rfl

include hs

/-- The running sums after grid point `n`. -/
theorem acc0_up : ∀ (n : ℕ) (h : n < cfg0.N), acc0 V c n h
    = (up fun k j => upTo (fun t => seg (part s t) (part x t) k j) n,
       up fun k j => upTo (fun t => seg (part s t) (feat (part x t) w1 b1 w2 b2) k j) n,
       up fun k _ => upTo (fun t => cnt (part s t) k) n)
  | 0, h => by
    simp only [acc0, in0_0 V c hx, in0_1 V c hs, in0_2, in0_3, in0_4, in0_5, hw1, hb1, hw2, hb2, sx0_up, sf0_up, cn0_up, upTo_zero]
  | n + 1, h => by
    simp only [acc0, acc0_up n, in0_0 V c hx, in0_1 V c hs, in0_2, in0_3, in0_4, in0_5, hw1, hb1, hw2, hb2, sx0Add_up, sf0Add_up, cn0Add_up,
      upTo_succ]

/-- The sums after the last one. -/
theorem last0 : acc0 V c (t0_9 : Fin cfg0.N).val (t0_9 : Fin cfg0.N).isLt
    = (up (seg s x), up (seg s (feat x w1 b1 w2 b2)), up fun k _ => cnt s k) := by
  refine (acc0_up V c hx hs hw1 hb1 hw2 hb2 9 _).trans ?_
  simp only [feat_part, seg_parts, cnt_parts]

/-- The sums of the sets' rows, -/
theorem out0_7 : (dat0 V c).arrAt 7 cfg0.N = up (seg s x) := by
  refine (dat0 V c).arrAt_eq_of_after_last 7 t0_9 (by decide +kernel) _ fun j => ?_
  blk_simp
  rw [after0_7]
  refine (congrFun (congrArg (fun p => p.1) (last0 V c hx hs hw1 hb1 hw2 hb2)) _).trans ?_
  exact same_index (up (seg s x)) _ _ rfl rfl

/-- of their features, -/
theorem out0_8 : (dat0 V c).arrAt 8 cfg0.N = up (seg s (feat x w1 b1 w2 b2)) := by
  refine (dat0 V c).arrAt_eq_of_after_last 8 t0_9 (by decide +kernel) _ fun j => ?_
  blk_simp
  rw [after0_8]
  refine (congrFun (congrArg (fun p => p.2.1) (last0 V c hx hs hw1 hb1 hw2 hb2)) _).trans ?_
  exact same_index (up (seg s (feat x w1 b1 w2 b2))) _ _ rfl rfl

/-- and the number of rows of each set. -/
theorem out0_9 : (dat0 V c).arrAt 9 cfg0.N = up fun k _ => cnt s k := by
  refine (dat0 V c).arrAt_eq_of_after_last 9 t0_9 (by decide +kernel) _ fun j => ?_
  refine (cast_eq _ _).trans ?_
  refine (congrFun ((after0_9 V c t0_9).trans (congrArg (fun p => p.2.2) (last0 V c hx hs hw1 hb1 hw2 hb2))) _).trans ?_
  generalize cnt s = cn
  rfl

end

end Cert.KernelIdeal.Value
-- ==== Proof.KernelIdeal.Payloads1.lean ====
module

public import proofs.«01_k».proof.Proof.KernelIdeal.Payloads0

@[expose] public section

set_option maxRecDepth 16384

noncomputable section

/-! # What a step of the second kernel computes from real blocks -/

namespace Cert.KernelIdeal.Value

open Cert.KernelIdeal Cert.KernelIdeal.Gen Cert.KernelIdeal.Run Cert.Maths
open Idealize.ShloMosaic Idealize.ShloMosaic.Pointwise

variable (x : Fin 10000 → Fin 128 → ℝ) (f : Fin 10000 → Fin 8 → ℝ) (s : Fin 10000 → Fin 64) (g l : Fin 136 → Fin 128 → ℝ)
  (gb : Fin 128 → ℝ) (sx : Fin 64 → Fin 128 → ℝ) (sf : Fin 64 → Fin 8 → ℝ) (cn : Fin 64 → ℝ)

theorem top_up : top (F := Ideal) (up g) = up fun i j => g (lo i) j := by
  funext i
  refine congrArg (fun r : ℝ => (r : EReal)) (congrArg₂ g (Fin.ext ?_) (Fin.ext ?_)) <;> simp [lo]

theorem bot_up : bot (F := Ideal) (up g) = up fun i j => g (hi i) j := by
  funext i
  refine congrArg (fun r : ℝ => (r : EReal)) (congrArg₂ g (Fin.ext ?_) (Fin.ext ?_)) <;> simp [hi]

theorem c1_pay : k1_pay8 (F := Ideal) (up fun k _ => cn k) (up sx) (top (up l)) (up sf) (bot (up l)) (row gb) = up (c1 sx sf cn l gb) := by
  rw [top_up, bot_up]
  funext i
  pointwise [k1_pay8, up, row]
  simp only [← EReal.coe_one, max_coe, div_max, ← EReal.coe_mul, sum_coe, ← EReal.coe_add, ← EReal.coe_sub, c1, both, size]

theorem hot_pay1 : k1_pay7 (F := Ideal) (column s) = up fun n k => hot (s n) k := by
  funext i
  pointwise [k1_pay7, k1_pay6, up, column]
  exact hot_word _ _

theorem act_pay (c : Fin 64 → Fin 128 → ℝ) :
    k1_pay1 (F := Ideal) (k1_pay6 (F := Ideal) (column s)) (k1_pay7 (column s)) (up c) (k1_pay9 (up x) (top (up g))) (k1_pay10 (up f)) (bot (up g))
      = up (act x f s g c) := by
  rw [top_up, bot_up, hot_pay1]
  funext i
  pointwise [k1_pay1, k1_pay6, k1_pay9, k1_pay10, up, column]
  simp only [below_word, ← EReal.coe_mul, sum_coe, ← EReal.coe_add, ← EReal.coe_zero, max_coe, mul_one, act, both]

theorem sy1_up : sy1 (F := Ideal) (up x) (up f) (column s) (up g) (up l) (row gb) (up sx) (up sf) (up fun k _ => cn k)
    = up (seg s (act x f s g (c1 sx sf cn l gb))) := by
  rw [sy1_eq, c1_pay]
  unfold k1_pay2
  rw [act_pay, hot_pay1]
  funext i
  pointwise [up]
  simp only [← EReal.coe_mul, sum_coe, seg]

theorem sy1Add_up (y : Fin 64 → Fin 128 → ℝ) :
    sy1Add (F := Ideal) (up x) (up f) (column s) (up g) (up l) (row gb) (up sx) (up sf) (up fun k _ => cn k) (up y)
      = up fun k j => y k j + seg s (act x f s g (c1 sx sf cn l gb)) k j := by
  rw [sy1Add_eq]
  unfold k1_pay4
  rw [← sy1_eq, sy1_up]
  funext i
  pointwise [up]
  simp only [← EReal.coe_add]

theorem my1_up : my1 (F := Ideal) (up x) (up f) (column s) (up g) (up l) (row gb) (up sx) (up sf) (up fun k _ => cn k)
    = up (gram (act x f s g (c1 sx sf cn l gb))) := by
  rw [my1_eq, c1_pay]
  unfold k1_pay3
  rw [act_pay]
  funext i
  pointwise [up]
  simp only [← EReal.coe_mul, sum_coe, gram]

theorem my1Add_up (y : Fin 128 → Fin 128 → ℝ) :
    my1Add (F := Ideal) (up x) (up f) (column s) (up g) (up l) (row gb) (up sx) (up sf) (up fun k _ => cn k) (up y)
      = up fun i j => y i j + gram (act x f s g (c1 sx sf cn l gb)) i j := by
  rw [my1Add_eq]
  unfold k1_pay5
  rw [← my1_eq, my1_up]
  funext i
  pointwise [up]
  simp only [← EReal.coe_add]

end Cert.KernelIdeal.Value

end
-- ==== Proof.KernelIdeal.Values1.lean ====
module

public import Idealize.ShloMosaic.Lib.Pipeline.ValueKit
public import proofs.«01_k».proof.Proof.KernelIdeal.Payloads1
public import proofs.«01_k».proof.Proof.KernelIdeal.Region1
public import proofs.«01_k».proof.Proof.Maths.Parts

@[expose] public section

set_option maxRecDepth 16384

noncomputable section

/-! # What the second kernel leaves in its arrays -/

namespace Cert.KernelIdeal.Value

open Cert.KernelIdeal Cert.KernelIdeal.Gen Cert.KernelIdeal.Run Cert.Maths
open Idealize.ShloMosaic Idealize.ShloMosaic.TcCoe Idealize.ShloMosaic.Pipeline

variable (V : (c : Dev nD) → (b : Ref sig .tc) → Buf (Elt Ideal) ((c : Thread nD τ).loc b)) (c : Dev nD)
variable {x : Fin 100000 → Fin 128 → ℝ} {f : Fin 100000 → Fin 8 → ℝ} {s : Fin 100000 → Fin 64} {g l : Fin 136 → Fin 128 → ℝ}
  {gb : Fin 128 → ℝ} {sx : Fin 64 → Fin 128 → ℝ} {sf : Fin 64 → Fin 8 → ℝ} {cn : Fin 64 → ℝ}

theorem idx1_0 : ∀ t : Fin cfg1.N, win1_0.index t = ![t.val, 0] := by decide +kernel
theorem idx1_1 : ∀ t : Fin cfg1.N, win1_1.index t = ![t.val, 0] := by decide +kernel
theorem idx1_2 : ∀ t : Fin cfg1.N, win1_2.index t = ![t.val, 0] := by decide +kernel
theorem idx1_3 : ∀ t : Fin cfg1.N, win1_3.index t = ![0, 0] := by decide +kernel
theorem idx1_4 : ∀ t : Fin cfg1.N, win1_4.index t = ![0, 0] := by decide +kernel
theorem idx1_5 : ∀ t : Fin cfg1.N, win1_5.index t = ![0, 0] := by decide +kernel
theorem idx1_6 : ∀ t : Fin cfg1.N, win1_6.index t = ![0, 0] := by decide +kernel
theorem idx1_7 : ∀ t : Fin cfg1.N, win1_7.index t = ![0, 0] := by decide +kernel
theorem idx1_8 : ∀ t : Fin cfg1.N, win1_8.index t = ![0, 0] := by decide +kernel

theorem part1_lt (t : Fin cfg1.N) : t.val < 10 := lt_of_lt_of_eq t.isLt N_1

theorem in1_0 (h : V c main_arg0 = up x) (t : Fin cfg1.N) : iblk1 V c 0 t = up (part x t.val) := by
  funext i
  blk_simp [iblk1]
  refine (congrFun h _).trans (up_rows x (part1_lt t) _ _ ?_ ?_) <;> blk_simp [idx1_0]
  exact Nat.mul_comm _ _ ▸ rfl

theorem in1_1 (h : V c main_v3_0 = up f) (t : Fin cfg1.N) : iblk1 V c 1 t = up (part f t.val) := by
  funext i
  blk_simp [iblk1]
  refine (congrFun h _).trans (up_rows f (part1_lt t) _ _ ?_ ?_) <;> blk_simp [idx1_1]
  exact Nat.mul_comm _ _ ▸ rfl

theorem in1_2 (h : V c main_v0 = column s) (t : Fin cfg1.N) : iblk1 V c 2 t = column (part s t.val) := by
  funext i
  blk_simp [iblk1]
  refine (congrFun h _).trans (column_rows s (part1_lt t) _ _ ?_)
  blk_simp [idx1_2]
  exact Nat.mul_comm _ _ ▸ rfl

theorem in1_3 (t : Fin cfg1.N) : iblk1 V c 3 t = V c main_arg9 := by
  funext i
  blk_simp [iblk1]
  refine same_index (V c main_arg9) _ _ ?_ ?_ <;> blk_simp [idx1_3]

theorem in1_4 (t : Fin cfg1.N) : iblk1 V c 4 t = V c main_arg11 := by
  funext i
  blk_simp [iblk1]
  refine same_index (V c main_arg11) _ _ ?_ ?_ <;> blk_simp [idx1_4]

theorem in1_5 (t : Fin cfg1.N) : iblk1 V c 5 t = V c main_v4 := by
  funext i
  blk_simp [iblk1]
  refine same_index (V c main_v4) _ _ ?_ ?_ <;> blk_simp [idx1_5]

theorem in1_6 (t : Fin cfg1.N) : iblk1 V c 6 t = V c main_v3_1 := by
  funext i
  blk_simp [iblk1]
  refine same_index (V c main_v3_1) _ _ ?_ ?_ <;> blk_simp [idx1_6]

theorem in1_7 (t : Fin cfg1.N) : iblk1 V c 7 t = V c main_v3_2 := by
  funext i
  blk_simp [iblk1]
  refine same_index (V c main_v3_2) _ _ ?_ ?_ <;> blk_simp [idx1_7]

theorem in1_8 (t : Fin cfg1.N) : iblk1 V c 8 t = V c main_v3_3 := by
  funext i
  blk_simp [iblk1]
  refine same_index (V c main_v3_3) _ _ ?_ ?_ <;> blk_simp [idx1_8]

section
variable (hx : V c main_arg0 = up x) (hf : V c main_v3_0 = up f) (hs : V c main_v0 = column s) (hg : V c main_arg9 = up g)
  (hl : V c main_arg11 = up l) (hgb : V c main_v4 = row gb) (hsx : V c main_v3_1 = up sx) (hsf : V c main_v3_2 = up sf)
  (hcn : V c main_v3_3 = up fun k _ => cn k)
include hx hf hs hg hl hgb hsx hsf hcn

/-- The running sums after grid point `n`. -/
theorem acc1_up : ∀ (n : ℕ) (h : n < cfg1.N), acc1 V c n h
    = (up fun k j => upTo (fun t => seg (part s t) (act (part x t) (part f t) (part s t) g (c1 sx sf cn l gb)) k j) n,
       up fun i j => upTo (fun t => gram (act (part x t) (part f t) (part s t) g (c1 sx sf cn l gb)) i j) n)
  | 0, h => by
    simp only [acc1, in1_0 V c hx, in1_1 V c hf, in1_2 V c hs, in1_3, in1_4, in1_5, in1_6, in1_7, in1_8, hg, hl, hgb, hsx, hsf, hcn,
      sy1_up, my1_up, upTo_zero]
  | n + 1, h => by
    simp only [acc1, acc1_up n, in1_0 V c hx, in1_1 V c hf, in1_2 V c hs, in1_3, in1_4, in1_5, in1_6, in1_7, in1_8, hg, hl, hgb, hsx, hsf,
      hcn, sy1Add_up, my1Add_up, upTo_succ]

/-- The sums after the last one. -/
theorem last1 : acc1 V c (t1_9 : Fin cfg1.N).val (t1_9 : Fin cfg1.N).isLt
    = (up (seg s (act x f s g (c1 sx sf cn l gb))), up (gram (act x f s g (c1 sx sf cn l gb)))) := by
  refine (acc1_up V c hx hf hs hg hl hgb hsx hsf hcn 9 _).trans ?_
  simp only [act_part, seg_parts, gram_parts]

/-- The sums of the first layer's rows over the sets, -/
theorem out1_9 : (dat1 V c).arrAt 9 cfg1.N = up (seg s (act x f s g (c1 sx sf cn l gb))) := by
  refine (dat1 V c).arrAt_eq_of_after_last 9 t1_9 (by decide +kernel) _ fun j => ?_
  refine (cast_eq _ _).trans ?_
  refine (congrFun ((after1_9 V c t1_9).trans (congrArg (fun p => p.1) (last1 V c hx hf hs hg hl hgb hsx hsf hcn))) _).trans ?_
  generalize seg s (act x f s g (c1 sx sf cn l gb)) = z
  rfl

/-- and the products of its columns. -/
theorem out1_10 : (dat1 V c).arrAt 10 cfg1.N = up (gram (act x f s g (c1 sx sf cn l gb))) := by
  refine (dat1 V c).arrAt_eq_of_after_last 10 t1_9 (by decide +kernel) _ fun j => ?_
  refine (cast_eq _ _).trans ?_
  refine (congrFun ((after1_10 V c t1_9).trans (congrArg (fun p => p.2) (last1 V c hx hf hs hg hl hgb hsx hsf hcn))) _).trans ?_
  generalize gram (act x f s g (c1 sx sf cn l gb)) = z
  rfl

end

end Cert.KernelIdeal.Value
-- ==== Proof.KernelIdeal.Payloads2.lean ====
module

public import proofs.«01_k».proof.Proof.KernelIdeal.Payloads1

@[expose] public section

set_option maxRecDepth 16384

noncomputable section

/-! # What a step of the third kernel computes from real blocks

The last bias, `be`, is added to a finished number and may be infinite. -/

namespace Cert.KernelIdeal.Value

open Cert.KernelIdeal Cert.KernelIdeal.Gen Cert.KernelIdeal.Run Cert.Maths
open Idealize.ShloMosaic Idealize.ShloMosaic.Pointwise

variable (x : Fin 10000 → Fin 128 → ℝ) (f : Fin 10000 → Fin 8 → ℝ) (s : Fin 10000 → Fin 64) (g l : Fin 136 → Fin 128 → ℝ)
  (gb : Fin 128 → ℝ) (g2 l2 : Fin 128 → Fin 128 → ℝ) (g2b ga : Fin 128 → ℝ) (be : Fin 128 → EReal) (sx : Fin 64 → Fin 128 → ℝ)
  (sf : Fin 64 → Fin 8 → ℝ) (cn : Fin 64 → ℝ) (sy : Fin 64 → Fin 128 → ℝ) (my : Fin 128 → Fin 128 → ℝ)

/-- The named constant. -/
theorem named_eq : Named.named (F := Ideal) κ "hundred_thousandth" (φ := .f32) 0x3727C5AC#32 = ((1 / 100000 : ℝ) : EReal) := rfl

theorem size_pay : k2_pay3 (F := Ideal) (up fun k _ => cn k) = (up fun k _ => size cn k : S64x1.Idx → EReal) := by
  funext i
  pointwise [k2_pay3, k2_pay2, up]
  simp only [← EReal.coe_one, max_coe, size]

theorem c2_pay : k2_pay5 (F := Ideal) (up fun k _ => cn k) (up sy) (row g2b) (up l2) = up (c2 sy cn l2 g2b) := by
  unfold k2_pay5
  rw [size_pay]
  funext i
  pointwise [k2_pay4, up, row]
  simp only [size, div_max, ← EReal.coe_mul, sum_coe, ← EReal.coe_sub, c2, size]

theorem mul_pay : k2_pay6 (F := Ideal) (up sy) (up g2) = up (mul sy g2) := by
  funext i
  pointwise [k2_pay6, k2_pay4, up]
  simp only [← EReal.coe_mul, sum_coe, mul]

theorem mu_pay : k2_pay7 (F := Ideal) (up fun k _ => cn k) (up sy) (up g2) (row g2b) (up l2)
    = row (muK (mul sy g2) cn (c2 sy cn l2 g2b)) := by
  unfold k2_pay7
  rw [c2_pay, mul_pay]
  funext i
  pointwise [k2_pay2, up, row]
  simp only [named_eq, ← EReal.coe_mul, sum_coe, ← EReal.coe_add, muK]

theorem diag_pay : k2_pay8 (F := Ideal) (up g2) (up my) = row fun j => ∑ i, g2 i j * mul my g2 i j := by
  funext i
  pointwise [k2_pay8, up, row]
  simp only [← EReal.coe_mul, sum_coe, mul]

theorem cross_pay : k2_pay9 (F := Ideal) (up fun k _ => cn k) (up sy) (up g2) (row g2b) (up l2)
    = row fun j => 2 * ∑ k, mul sy g2 k j * c2 sy cn l2 g2b k j := by
  unfold k2_pay9
  rw [c2_pay, mul_pay]
  funext i
  pointwise [up, row]
  simp only [word_two, ← EReal.coe_mul, sum_coe]

theorem sq_pay : k2_pay10 (F := Ideal) (up fun k _ => cn k) (up sy) (row g2b) (up l2)
    = up fun k j => cn k * c2 sy cn l2 g2b k j * c2 sy cn l2 g2b k j := by
  unfold k2_pay10
  rw [c2_pay]
  funext i
  pointwise [k2_pay2, up]
  simp only [← EReal.coe_mul]

/-- The columns' variance, as the kernel has it. -/
abbrev varOf (j : Fin 128) : ℝ := varK (mul sy g2) cn (c2 sy cn l2 g2b) my g2 j

theorem scale_pay (hv : ∀ j, 0 < varOf g2 l2 g2b cn sy my j + 1 / 100000) :
    k2_pay11 (F := Ideal) (row (muK (mul sy g2) cn (c2 sy cn l2 g2b))) (row fun j => ∑ i, g2 i j * mul my g2 i j)
        (row fun j => 2 * ∑ k, mul sy g2 k j * c2 sy cn l2 g2b k j) (up fun k j => cn k * c2 sy cn l2 g2b k j * c2 sy cn l2 g2b k j) (row ga)
      = row (scale (varOf g2 l2 g2b cn sy my) ga) := by
  funext i
  pointwise [k2_pay11, up, row]
  simp only [named_eq, ← EReal.coe_mul, sum_coe, ← EReal.coe_add, ← EReal.coe_sub]
  refine (congrArg (fun r => ((ga (i 1) : ℝ) : EReal) * r) (rsqrt_coe (hv (i 1)))).trans ?_
  rw [← EReal.coe_mul]
  rfl

theorem hot_pay2 : k2_pay14 (F := Ideal) (column s) = up fun n k => hot (s n) k := by
  funext i
  pointwise [k2_pay14, k2_pay13, up, column]
  exact hot_word _ _

theorem mean_pay : k2_pay15 (F := Ideal) (up fun k _ => size cn k) (up sx) (top (up l)) (up sf) (bot (up l))
    = up fun k j => both (fun i => sx k i / size cn k) (fun i => sf k i / size cn k) l j := by
  rw [top_up, bot_up]
  funext i
  pointwise [k2_pay15, up]
  simp only [size, div_max, ← EReal.coe_mul, sum_coe, ← EReal.coe_add, both]

theorem out2_up (hv : ∀ j, 0 < varOf g2 l2 g2b cn sy my j + 1 / 100000) :
    out2 (F := Ideal) (up x) (up f) (column s) (up g) (up l) (row gb) (up g2) (up l2) (row g2b) (row ga) (across be) (up sx) (up sf)
        (up fun k _ => cn k) (up sy) (up my)
      = fun i => (((x (i 0) (i 1) + lin (act x f s g (c1 sx sf cn l gb)) s g2 (c2 sy cn l2 g2b) (i 0) (i 1)
            * scale (varOf g2 l2 g2b cn sy my) ga (i 1) : ℝ)) : EReal)
          + (be (i 1) - ((muK (mul sy g2) cn (c2 sy cn l2 g2b) (i 1) * scale (varOf g2 l2 g2b cn sy my) ga (i 1) : ℝ) : EReal)) := by
  rw [out2_eq, c2_pay, mu_pay, diag_pay, cross_pay, sq_pay]
  unfold k2_pay12
  rw [scale_pay _ _ _ _ _ _ _ hv, size_pay, mean_pay, hot_pay2, top_up, bot_up]
  funext i
  pointwise [k2_pay1, k2_pay13, k2_pay16, up, row, across, column]
  simp only [below_word, ← EReal.coe_mul, sum_coe, ← EReal.coe_add, ← EReal.coe_sub, ← EReal.coe_zero, max_coe, mul_one]
  rfl

end Cert.KernelIdeal.Value

end
-- ==== Proof.KernelIdeal.Values2.lean ====
module

public import Idealize.ShloMosaic.Lib.Pipeline.ValueKit
public import proofs.«01_k».proof.Proof.KernelIdeal.Payloads2
public import proofs.«01_k».proof.Proof.KernelIdeal.Region2
public import proofs.«01_k».proof.Proof.Maths.Parts

@[expose] public section

set_option maxRecDepth 16384

noncomputable section

/-! # What the third kernel leaves in its arrays -/

namespace Cert.KernelIdeal.Value

open Cert.KernelIdeal Cert.KernelIdeal.Gen Cert.KernelIdeal.Run Cert.Maths
open Idealize.ShloMosaic Idealize.ShloMosaic.TcCoe Idealize.ShloMosaic.Pipeline

variable (V : (c : Dev nD) → (b : Ref sig .tc) → Buf (Elt Ideal) ((c : Thread nD τ).loc b)) (c : Dev nD)
variable {x : Fin 100000 → Fin 128 → ℝ} {f : Fin 100000 → Fin 8 → ℝ} {s : Fin 100000 → Fin 64} {g l : Fin 136 → Fin 128 → ℝ}
  {gb : Fin 128 → ℝ} {sx : Fin 64 → Fin 128 → ℝ} {sf : Fin 64 → Fin 8 → ℝ} {cn : Fin 64 → ℝ} {g2 l2 : Fin 128 → Fin 128 → ℝ}
  {g2b ga : Fin 128 → ℝ} {be : Fin 128 → EReal} {sy : Fin 64 → Fin 128 → ℝ} {my : Fin 128 → Fin 128 → ℝ}

theorem idx2_0 : ∀ t : Fin cfg2.N, win2_0.index t = ![t.val, 0] := by decide +kernel
theorem idx2_1 : ∀ t : Fin cfg2.N, win2_1.index t = ![t.val, 0] := by decide +kernel
theorem idx2_2 : ∀ t : Fin cfg2.N, win2_2.index t = ![t.val, 0] := by decide +kernel
theorem idx2_3 : ∀ t : Fin cfg2.N, win2_3.index t = ![0, 0] := by decide +kernel
theorem idx2_4 : ∀ t : Fin cfg2.N, win2_4.index t = ![0, 0] := by decide +kernel
theorem idx2_5 : ∀ t : Fin cfg2.N, win2_5.index t = ![0, 0] := by decide +kernel
theorem idx2_6 : ∀ t : Fin cfg2.N, win2_6.index t = ![0, 0] := by decide +kernel
theorem idx2_7 : ∀ t : Fin cfg2.N, win2_7.index t = ![0, 0] := by decide +kernel
theorem idx2_8 : ∀ t : Fin cfg2.N, win2_8.index t = ![0, 0] := by decide +kernel
theorem idx2_9 : ∀ t : Fin cfg2.N, win2_9.index t = ![0, 0] := by decide +kernel
theorem idx2_10 : ∀ t : Fin cfg2.N, win2_10.index t = ![0, 0] := by decide +kernel
theorem idx2_11 : ∀ t : Fin cfg2.N, win2_11.index t = ![0, 0] := by decide +kernel
theorem idx2_12 : ∀ t : Fin cfg2.N, win2_12.index t = ![0, 0] := by decide +kernel
theorem idx2_13 : ∀ t : Fin cfg2.N, win2_13.index t = ![0, 0] := by decide +kernel
theorem idx2_14 : ∀ t : Fin cfg2.N, win2_14.index t = ![0, 0] := by decide +kernel
theorem idx2_15 : ∀ t : Fin cfg2.N, win2_15.index t = ![0, 0] := by decide +kernel
theorem idx2_16 : ∀ t : Fin cfg2.N, win2_16.index t = ![t.val, 0] := by decide +kernel

theorem part2_lt (t : Fin cfg2.N) : t.val < 10 := lt_of_lt_of_eq t.isLt N_2

theorem in2_0 (h : V c main_arg0 = up x) (t : Fin cfg2.N) : iblk2 V c 0 t = up (part x t.val) := by
  funext i
  blk_simp [iblk2]
  refine (congrFun h _).trans (up_rows x (part2_lt t) _ _ ?_ ?_) <;> blk_simp [idx2_0]
  exact Nat.mul_comm _ _ ▸ rfl

theorem in2_1 (h : V c main_v3_0 = up f) (t : Fin cfg2.N) : iblk2 V c 1 t = up (part f t.val) := by
  funext i
  blk_simp [iblk2]
  refine (congrFun h _).trans (up_rows f (part2_lt t) _ _ ?_ ?_) <;> blk_simp [idx2_1]
  exact Nat.mul_comm _ _ ▸ rfl

theorem in2_2 (h : V c main_v0 = column s) (t : Fin cfg2.N) : iblk2 V c 2 t = column (part s t.val) := by
  funext i
  blk_simp [iblk2]
  refine (congrFun h _).trans (column_rows s (part2_lt t) _ _ ?_)
  blk_simp [idx2_2]
  exact Nat.mul_comm _ _ ▸ rfl

theorem in2_3 (t : Fin cfg2.N) : iblk2 V c 3 t = V c main_arg9 := by
  funext i
  blk_simp [iblk2]
  refine same_index (V c main_arg9) _ _ ?_ ?_ <;> blk_simp [idx2_3]

theorem in2_4 (t : Fin cfg2.N) : iblk2 V c 4 t = V c main_arg11 := by
  funext i
  blk_simp [iblk2]
  refine same_index (V c main_arg11) _ _ ?_ ?_ <;> blk_simp [idx2_4]

theorem in2_5 (t : Fin cfg2.N) : iblk2 V c 5 t = V c main_v6 := by
  funext i
  blk_simp [iblk2]
  refine same_index (V c main_v6) _ _ ?_ ?_ <;> blk_simp [idx2_5]

theorem in2_6 (t : Fin cfg2.N) : iblk2 V c 6 t = V c main_arg12 := by
  funext i
  blk_simp [iblk2]
  refine same_index (V c main_arg12) _ _ ?_ ?_ <;> blk_simp [idx2_6]

theorem in2_7 (t : Fin cfg2.N) : iblk2 V c 7 t = V c main_arg14 := by
  funext i
  blk_simp [iblk2]
  refine same_index (V c main_arg14) _ _ ?_ ?_ <;> blk_simp [idx2_7]

theorem in2_8 (t : Fin cfg2.N) : iblk2 V c 8 t = V c main_v7 := by
  funext i
  blk_simp [iblk2]
  refine same_index (V c main_v7) _ _ ?_ ?_ <;> blk_simp [idx2_8]

theorem in2_9 (t : Fin cfg2.N) : iblk2 V c 9 t = V c main_v8 := by
  funext i
  blk_simp [iblk2]
  refine same_index (V c main_v8) _ _ ?_ ?_ <;> blk_simp [idx2_9]

theorem in2_10 (t : Fin cfg2.N) : iblk2 V c 10 t = V c main_v9 := by
  funext i
  blk_simp [iblk2]
  refine same_index (V c main_v9) _ _ ?_ ?_ <;> blk_simp [idx2_10]

theorem in2_11 (t : Fin cfg2.N) : iblk2 V c 11 t = V c main_v3_1 := by
  funext i
  blk_simp [iblk2]
  refine same_index (V c main_v3_1) _ _ ?_ ?_ <;> blk_simp [idx2_11]

theorem in2_12 (t : Fin cfg2.N) : iblk2 V c 12 t = V c main_v3_2 := by
  funext i
  blk_simp [iblk2]
  refine same_index (V c main_v3_2) _ _ ?_ ?_ <;> blk_simp [idx2_12]

theorem in2_13 (t : Fin cfg2.N) : iblk2 V c 13 t = V c main_v3_3 := by
  funext i
  blk_simp [iblk2]
  refine same_index (V c main_v3_3) _ _ ?_ ?_ <;> blk_simp [idx2_13]

theorem in2_14 (t : Fin cfg2.N) : iblk2 V c 14 t = V c main_v5_0 := by
  funext i
  blk_simp [iblk2]
  refine same_index (V c main_v5_0) _ _ ?_ ?_ <;> blk_simp [idx2_14]

theorem in2_15 (t : Fin cfg2.N) : iblk2 V c 15 t = V c main_v5_1 := by
  funext i
  blk_simp [iblk2]
  refine same_index (V c main_v5_1) _ _ ?_ ?_ <;> blk_simp [idx2_15]

/-- An entry of the result: the row's own, plus the scaled and shifted second layer. -/
def entry (x z : Fin 100000 → Fin 128 → ℝ) (sc mu : Fin 128 → ℝ) (be : Fin 128 → EReal) (n : Fin 100000) (j : Fin 128) : EReal :=
  ((x n j + z n j * sc j : ℝ) : EReal) + (be j - ((mu j * sc j : ℝ) : EReal))

/-- Every entry of the result. -/
theorem out2_16 (hx : V c main_arg0 = up x) (hf : V c main_v3_0 = up f) (hs : V c main_v0 = column s) (hg : V c main_arg9 = up g)
    (hl : V c main_arg11 = up l) (hgb : V c main_v6 = row gb) (hg2 : V c main_arg12 = up g2) (hl2 : V c main_arg14 = up l2)
    (hg2b : V c main_v7 = row g2b) (hga : V c main_v8 = row ga) (hbe : V c main_v9 = across be)
    (hsx : V c main_v3_1 = up sx) (hsf : V c main_v3_2 = up sf) (hcn : V c main_v3_3 = up fun k _ => cn k)
    (hsy : V c main_v5_0 = up sy) (hmy : V c main_v5_1 = up my) (hv : ∀ j, 0 < varOf g2 l2 g2b cn sy my j + 1 / 100000) :
    (dat2 V c).arrAt 16 cfg2.N = fun i : S100000x128.Idx =>
      entry x (lin (act x f s g (c1 sx sf cn l gb)) s g2 (c2 sy cn l2 g2b)) (scale (varOf g2 l2 g2b cn sy my) ga)
        (muK (mul sy g2) cn (c2 sy cn l2 g2b)) be (i 0) (i 1) := by
  refine (dat2 V c).arrAt_eq_of_covers 16 _ (by decide +kernel) fun t _ y => ?_
  blk_simp
  rw [after2_16, in2_0 V c hx, in2_1 V c hf, in2_2 V c hs, in2_3, in2_4, in2_5, in2_6, in2_7, in2_8, in2_9, in2_10, in2_11, in2_12, in2_13,
    in2_14, in2_15, hg, hl, hgb, hg2, hl2, hg2b, hga, hbe, hsx, hsf, hcn, hsy, hmy, out2_up _ _ _ _ _ _ _ _ _ _ _ _ _ _ _ _ hv]
  refine rows_at (entry x (lin (act x f s g (c1 sx sf cn l gb)) s g2 (c2 sy cn l2 g2b)) (scale (varOf g2 l2 g2b cn sy my) ga)
    (muK (mul sy g2) cn (c2 sy cn l2 g2b)) be) (part2_lt t) _ y ?_ ?_ <;> blk_simp [idx2_16]
  exact Nat.mul_comm _ _ ▸ rfl

end Cert.KernelIdeal.Value
-- ==== Proof.KernelIdeal.Result.lean ====
module

public import Idealize.ShloMosaic.Lib.Pointwise
public import proofs.«01_k».proof.Proof.KernelIdeal.Fold
public import proofs.«01_k».proof.Proof.KernelIdeal.Values0
public import proofs.«01_k».proof.Proof.KernelIdeal.Values1
public import proofs.«01_k».proof.Proof.KernelIdeal.Values2

@[expose] public section

set_option maxRecDepth 16384

noncomputable section

/-! # The kernel's result from real arguments -/

namespace Cert.KernelIdeal.Value

open Cert.KernelIdeal Cert.KernelIdeal.Gen Cert.KernelIdeal.Run Cert.Maths
open Idealize.ShloMosaic Idealize.ShloMosaic.TcCoe Idealize.ShloMosaic.Pipeline Idealize.ShloMosaic.Pointwise

/-! ## The host operations only give the vectors a second axis -/

theorem cast_sets (s : Fin 100000 → Fin 64) (h : Shape.ShapeCasts S100000 S100000x1) :
    shapeCast S100000x1 (sets s : S100000.Idx → BitVec 32) h = column s := by
  funext i; pointwise [sets, column]

theorem cast_128 (b : Fin 128 → EReal) (h : Shape.ShapeCasts S128 S1x128) : shapeCast S1x128 (plain b : S128.Idx → EReal) h = across b := by
  funext i; pointwise [plain, across]

theorem cast_8 (b : Fin 8 → EReal) (h : Shape.ShapeCasts S8 S1x8) : shapeCast S1x8 (plain b : S8.Idx → EReal) h = across b := by
  funext i; pointwise [plain, across]

variable (m : (ℓ : Loc nD τ sig) → Buf (Elt Ideal) ℓ) (ρ : Dev nD → PrngReg) (c : Dev nD)

/-- An argument when each kernel starts. -/
theorem arg1 (r : Ref sig .tc) (hr : r ∈ argRefs) : V1 m ρ c r = m ((c.tc : Thread nD τ).loc r) := W1_of m ρ c r (ops0_args r hr)
theorem arg3 (r : Ref sig .tc) (hr : r ∈ argRefs) : V3 m ρ c r = m ((c.tc : Thread nD τ).loc r) :=
  (W3_of m ρ c r (ops1_args r hr)).trans (W2_args m ρ c r hr)
theorem arg5 (r : Ref sig .tc) (hr : r ∈ argRefs) : V5 m ρ c r = m ((c.tc : Thread nD τ).loc r) :=
  (W5_of m ρ c r (ops2_args r hr)).trans (W4_args m ρ c r hr)

/-! The reshaped arguments when the kernel that reads them starts. -/

theorem host_v0 : V1 m ρ c main_v0 = shapeCast S100000x1 (m ((c.tc : Thread nD τ).loc main_arg2)) shapeCasts_S100000_S100000x1 := by
  show StableHlo.after hostOps0 (W0 m ρ c) (Proc.devRef .tc main_v0) = _
  after_results_simp
  rfl

theorem host_v1 : V1 m ρ c main_v1 = shapeCast S1x128 (m ((c.tc : Thread nD τ).loc main_arg6)) shapeCasts_S128_S1x128 := by
  show StableHlo.after hostOps0 (W0 m ρ c) (Proc.devRef .tc main_v1) = _
  after_results_simp
  rfl

theorem host_v2 : V1 m ρ c main_v2 = shapeCast S1x8 (m ((c.tc : Thread nD τ).loc main_arg8)) shapeCasts_S8_S1x8 := by
  show StableHlo.after hostOps0 (W0 m ρ c) (Proc.devRef .tc main_v2) = _
  after_results_simp
  rfl

theorem host_v4 : V3 m ρ c main_v4 = shapeCast S1x128 (m ((c.tc : Thread nD τ).loc main_arg10)) shapeCasts_S128_S1x128 := by
  rw [← W2_args m ρ c main_arg10 (by decide)]
  show StableHlo.after hostOps1 (W2 m ρ c) (Proc.devRef .tc main_v4) = _
  after_results_simp
  rfl

theorem host_v6 : V5 m ρ c main_v6 = shapeCast S1x128 (m ((c.tc : Thread nD τ).loc main_arg10)) shapeCasts_S128_S1x128 := by
  rw [← W4_args m ρ c main_arg10 (by decide)]
  show StableHlo.after hostOps2 (W4 m ρ c) (Proc.devRef .tc main_v6) = _
  after_results_simp
  rfl

theorem host_v7 : V5 m ρ c main_v7 = shapeCast S1x128 (m ((c.tc : Thread nD τ).loc main_arg13)) shapeCasts_S128_S1x128 := by
  rw [← W4_args m ρ c main_arg13 (by decide)]
  show StableHlo.after hostOps2 (W4 m ρ c) (Proc.devRef .tc main_v7) = _
  after_results_simp
  rfl

theorem host_v8 : V5 m ρ c main_v8 = shapeCast S1x128 (m ((c.tc : Thread nD τ).loc main_arg15)) shapeCasts_S128_S1x128 := by
  rw [← W4_args m ρ c main_arg15 (by decide)]
  show StableHlo.after hostOps2 (W4 m ρ c) (Proc.devRef .tc main_v8) = _
  after_results_simp
  rfl

theorem host_v9 : V5 m ρ c main_v9 = shapeCast S1x128 (m ((c.tc : Thread nD τ).loc main_arg16)) shapeCasts_S128_S1x128 := by
  rw [← W4_args m ρ c main_arg16 (by decide)]
  show StableHlo.after hostOps2 (W4 m ρ c) (Proc.devRef .tc main_v9) = _
  after_results_simp
  rfl

section
variable {x : Fin 100000 → Fin 128 → ℝ} {s : Fin 100000 → Fin 64} {w1 : Fin 128 → Fin 128 → ℝ} {b1 : Fin 128 → ℝ}
  {w2 : Fin 128 → Fin 8 → ℝ} {b2 : Fin 8 → ℝ} {g l : Fin 136 → Fin 128 → ℝ} {gb : Fin 128 → ℝ} {g2 l2 : Fin 128 → Fin 128 → ℝ}
  {g2b ga : Fin 128 → ℝ} {be : Fin 128 → EReal}
variable
  (hx : m ((c.tc : Thread nD τ).loc main_arg0) = up x)
  (hs : m ((c.tc : Thread nD τ).loc main_arg2) = sets s)
  (hw1 : m ((c.tc : Thread nD τ).loc main_arg5) = up w1)
  (hb1 : m ((c.tc : Thread nD τ).loc main_arg6) = vec b1)
  (hw2 : m ((c.tc : Thread nD τ).loc main_arg7) = up w2)
  (hb2 : m ((c.tc : Thread nD τ).loc main_arg8) = vec b2)
include hs

theorem col1 : V1 m ρ c main_v0 = column s := by rw [host_v0, hs]; exact cast_sets s _
theorem col3 : V3 m ρ c main_v0 = column s :=
  (W3_of m ρ c _ (by decide)).trans ((W2_of m ρ c _ (by decide)).trans (col1 m ρ c hs))
theorem col5 : V5 m ρ c main_v0 = column s :=
  (W5_of m ρ c _ (by decide)).trans ((W4_of m ρ c _ (by decide)).trans (col3 m ρ c hs))

omit hs
include hb1 in
theorem row1 : V1 m ρ c main_v1 = row b1 := by
  rw [host_v1, hb1]; exact cast_128 (fun j => ((b1 j : ℝ) : EReal)) _
include hb2 in
theorem row2 : V1 m ρ c main_v2 = row b2 := by
  rw [host_v2, hb2]; exact cast_8 (fun j => ((b2 j : ℝ) : EReal)) _

include hx hw1 hb1 hw2 hb2

/-- The features, -/
theorem feat3 : V3 m ρ c main_v3_0 = up (feat x w1 b1 w2 b2) :=
  (W3_of m ρ c _ (by decide)).trans ((W2_arr m ρ c 6).trans (out0_6 (V1 m ρ) c
    ((arg1 m ρ c _ (by decide)).trans hx) ((arg1 m ρ c _ (by decide)).trans hw1) (row1 m ρ c hb1)
    ((arg1 m ρ c _ (by decide)).trans hw2) (row2 m ρ c hb2)))
theorem feat5 : V5 m ρ c main_v3_0 = up (feat x w1 b1 w2 b2) :=
  (W5_of m ρ c _ (by decide)).trans ((W4_of m ρ c _ (by decide)).trans (feat3 m ρ c hx hw1 hb1 hw2 hb2))

include hs

/-- the sums of the rows over the sets, -/
theorem rows3 : V3 m ρ c main_v3_1 = up (seg s x) :=
  (W3_of m ρ c _ (by decide)).trans ((W2_arr m ρ c 7).trans (out0_7 (V1 m ρ) c
    ((arg1 m ρ c _ (by decide)).trans hx) (col1 m ρ c hs) ((arg1 m ρ c _ (by decide)).trans hw1) (row1 m ρ c hb1)
    ((arg1 m ρ c _ (by decide)).trans hw2) (row2 m ρ c hb2)))
theorem rows5 : V5 m ρ c main_v3_1 = up (seg s x) :=
  (W5_of m ρ c _ (by decide)).trans ((W4_of m ρ c _ (by decide)).trans (rows3 m ρ c hx hs hw1 hb1 hw2 hb2))

/-- those of their features, -/
theorem feats3 : V3 m ρ c main_v3_2 = up (seg s (feat x w1 b1 w2 b2)) :=
  (W3_of m ρ c _ (by decide)).trans ((W2_arr m ρ c 8).trans (out0_8 (V1 m ρ) c
    ((arg1 m ρ c _ (by decide)).trans hx) (col1 m ρ c hs) ((arg1 m ρ c _ (by decide)).trans hw1) (row1 m ρ c hb1)
    ((arg1 m ρ c _ (by decide)).trans hw2) (row2 m ρ c hb2)))
theorem feats5 : V5 m ρ c main_v3_2 = up (seg s (feat x w1 b1 w2 b2)) :=
  (W5_of m ρ c _ (by decide)).trans ((W4_of m ρ c _ (by decide)).trans (feats3 m ρ c hx hs hw1 hb1 hw2 hb2))

/-- and the number of rows of each set. -/
theorem count3 : V3 m ρ c main_v3_3 = up fun k _ => cnt s k :=
  (W3_of m ρ c _ (by decide)).trans ((W2_arr m ρ c 9).trans (out0_9 (V1 m ρ) c
    ((arg1 m ρ c _ (by decide)).trans hx) (col1 m ρ c hs) ((arg1 m ρ c _ (by decide)).trans hw1) (row1 m ρ c hb1)
    ((arg1 m ρ c _ (by decide)).trans hw2) (row2 m ρ c hb2)))
theorem count5 : V5 m ρ c main_v3_3 = up fun k _ => cnt s k :=
  (W5_of m ρ c _ (by decide)).trans ((W4_of m ρ c _ (by decide)).trans (count3 m ρ c hx hs hw1 hb1 hw2 hb2))

variable
  (hg : m ((c.tc : Thread nD τ).loc main_arg9) = up g)
  (hgb : m ((c.tc : Thread nD τ).loc main_arg10) = vec gb)
  (hl : m ((c.tc : Thread nD τ).loc main_arg11) = up l)

omit hx hs hw1 hb1 hw2 hb2 in
include hgb in
theorem row4 : V3 m ρ c main_v4 = row gb := by
  rw [host_v4, hgb]; exact cast_128 (fun j => ((gb j : ℝ) : EReal)) _

include hg hgb hl

/-- The first layer's rows, summed over the sets, -/
theorem layer5 : V5 m ρ c main_v5_0
    = up (seg s (act x (feat x w1 b1 w2 b2) s g (c1 (seg s x) (seg s (feat x w1 b1 w2 b2)) (cnt s) l gb))) :=
  (W5_of m ρ c _ (by decide)).trans ((W4_arr m ρ c 9).trans (out1_9 (V3 m ρ) c
    ((arg3 m ρ c _ (by decide)).trans hx) (feat3 m ρ c hx hw1 hb1 hw2 hb2) (col3 m ρ c hs) ((arg3 m ρ c _ (by decide)).trans hg)
    ((arg3 m ρ c _ (by decide)).trans hl) (row4 m ρ c hgb) (rows3 m ρ c hx hs hw1 hb1 hw2 hb2) (feats3 m ρ c hx hs hw1 hb1 hw2 hb2)
    (count3 m ρ c hx hs hw1 hb1 hw2 hb2)))

/-- and the products of its columns. -/
theorem gram5 : V5 m ρ c main_v5_1
    = up (gram (act x (feat x w1 b1 w2 b2) s g (c1 (seg s x) (seg s (feat x w1 b1 w2 b2)) (cnt s) l gb))) :=
  (W5_of m ρ c _ (by decide)).trans ((W4_arr m ρ c 10).trans (out1_10 (V3 m ρ) c
    ((arg3 m ρ c _ (by decide)).trans hx) (feat3 m ρ c hx hw1 hb1 hw2 hb2) (col3 m ρ c hs) ((arg3 m ρ c _ (by decide)).trans hg)
    ((arg3 m ρ c _ (by decide)).trans hl) (row4 m ρ c hgb) (rows3 m ρ c hx hs hw1 hb1 hw2 hb2) (feats3 m ρ c hx hs hw1 hb1 hw2 hb2)
    (count3 m ρ c hx hs hw1 hb1 hw2 hb2)))

variable
  (hg2 : m ((c.tc : Thread nD τ).loc main_arg12) = up g2)
  (hg2b : m ((c.tc : Thread nD τ).loc main_arg13) = vec g2b)
  (hl2 : m ((c.tc : Thread nD τ).loc main_arg14) = up l2)
  (hga : m ((c.tc : Thread nD τ).loc main_arg15) = vec ga)
  (hbe : m ((c.tc : Thread nD τ).loc main_arg16) = plain be)

omit hx hs hw1 hb1 hw2 hb2 hg hl in
include hgb in
theorem row6 : V5 m ρ c main_v6 = row gb := by
  rw [host_v6, hgb]; exact cast_128 (fun j => ((gb j : ℝ) : EReal)) _
omit hx hs hw1 hb1 hw2 hb2 hg hgb hl in
include hg2b in
theorem row7 : V5 m ρ c main_v7 = row g2b := by
  rw [host_v7, hg2b]; exact cast_128 (fun j => ((g2b j : ℝ) : EReal)) _
omit hx hs hw1 hb1 hw2 hb2 hg hgb hl in
include hga in
theorem row8 : V5 m ρ c main_v8 = row ga := by
  rw [host_v8, hga]; exact cast_128 (fun j => ((ga j : ℝ) : EReal)) _
omit hx hs hw1 hb1 hw2 hb2 hg hgb hl in
include hbe in
theorem row9 : V5 m ρ c main_v9 = across be := by rw [host_v9, hbe]; exact cast_128 be _

include hg2 hg2b hl2 hga hbe

/-- The result: the second layer, scaled and shifted by its own mean and variance. -/
theorem result : W6 m ρ c (Proc.devRef .tc main_v10) = fun i : S100000x128.Idx =>
    entry x (second x s w1 b1 w2 b2 g l gb g2 g2b l2) (scale (var (second x s w1 b1 w2 b2 g l gb g2 g2b l2)) ga)
      (mean (second x s w1 b1 w2 b2 g l gb g2 g2b l2)) be (i 0) (i 1) := by
  have hN : (Fintype.card (Fin 100000) : ℝ) = 100000 := by simp
  have hvar : varOf g2 l2 g2b (cnt s) (seg s (act x (feat x w1 b1 w2 b2) s g (c1 (seg s x) (seg s (feat x w1 b1 w2 b2)) (cnt s) l gb)))
      (gram (act x (feat x w1 b1 w2 b2) s g (c1 (seg s x) (seg s (feat x w1 b1 w2 b2)) (cnt s) l gb)))
      = var (second x s w1 b1 w2 b2 g l gb g2 g2b l2) := funext fun j => varK_eq hN _ _ _ _ j
  refine (W6_arr m ρ c 16).trans ((out2_16 (V5 m ρ) c ((arg5 m ρ c _ (by decide)).trans hx) (feat5 m ρ c hx hw1 hb1 hw2 hb2)
    (col5 m ρ c hs) ((arg5 m ρ c _ (by decide)).trans hg) ((arg5 m ρ c _ (by decide)).trans hl) (row6 m ρ c hgb)
    ((arg5 m ρ c _ (by decide)).trans hg2) ((arg5 m ρ c _ (by decide)).trans hl2) (row7 m ρ c hg2b) (row8 m ρ c hga) (row9 m ρ c hbe)
    (rows5 m ρ c hx hs hw1 hb1 hw2 hb2) (feats5 m ρ c hx hs hw1 hb1 hw2 hb2) (count5 m ρ c hx hs hw1 hb1 hw2 hb2)
    (layer5 m ρ c hx hs hw1 hb1 hw2 hb2 hg hgb hl) (gram5 m ρ c hx hs hw1 hb1 hw2 hb2 hg hgb hl) ?_).trans ?_)
  · intro j; rw [hvar]; exact var_pos _ _
  · rw [hvar, show muK _ _ _ = mean (second x s w1 b1 w2 b2 g l gb g2 g2b l2) from funext fun j => muK_eq _ _ _ _ j]
    rfl

end

end Cert.KernelIdeal.Value
-- ==== Proof.Equal.lean ====
module

public import proofs.«01_k».proof.Defs
public import proofs.«01_k».proof.Proof.Inputs
public import proofs.«01_k».proof.Proof.KernelIdeal.Result
public import proofs.«01_k».proof.Proof.KernelIdeal.Run
public import proofs.«01_k».proof.Proof.ReferenceIdeal.Result

@[expose] public section

set_option maxRecDepth 16384

noncomputable section

/-! # The kernel's result is the reference's -/

namespace Cert.Equal

open Cert.Maths
open Idealize.ShloMosaic Idealize.ShloMosaic.TcCoe Idealize.SL.Sem

/-- Real numbers regroup around an extended real. -/
theorem regroup {p q a r : ℝ} (h : p - q = a + r) (b : EReal) : (p : EReal) + (b - (q : EReal)) = (a : EReal) + ((r : EReal) + b) := by
  rw [sub_eq_add_neg, ← EReal.coe_neg, add_comm b, ← add_assoc, ← EReal.coe_add, ← sub_eq_add_neg, h, EReal.coe_add, add_assoc]

/-- An entry of the result, written as the reference writes it. -/
theorem entry_eq (x z : Fin 100000 → Fin 128 → ℝ) (v ga mu : Fin 128 → ℝ) (be : Fin 128 → EReal) (n : Fin 100000) (j : Fin 128) :
    KernelIdeal.Value.entry x z (scale v ga) mu be n j
      = ((x n j : ℝ) : EReal) + ((((z n j - mu j) / Real.sqrt (v j + 1 / 100000) * ga j : ℝ) : EReal) + be j) :=
  regroup (by simp only [scale, div_eq_mul_inv]; ring) (be j)

section
variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ)

theorem result_eq (hpre : Pre_KernelIdeal_inputs_ok m) (c : Dev KernelIdeal.nD)
    (agree : m' ((c.tc : Thread ReferenceIdeal.nD ReferenceIdeal.τ).loc ReferenceIdeal.main_arg0)
        = m ((c.tc : Thread KernelIdeal.nD KernelIdeal.τ).loc KernelIdeal.main_arg0)
      ∧ m' ((c.tc : Thread ReferenceIdeal.nD ReferenceIdeal.τ).loc ReferenceIdeal.main_arg1)
        = m ((c.tc : Thread KernelIdeal.nD KernelIdeal.τ).loc KernelIdeal.main_arg1)
      ∧ m' ((c.tc : Thread ReferenceIdeal.nD ReferenceIdeal.τ).loc ReferenceIdeal.main_arg2)
        = m ((c.tc : Thread KernelIdeal.nD KernelIdeal.τ).loc KernelIdeal.main_arg2)
      ∧ m' ((c.tc : Thread ReferenceIdeal.nD ReferenceIdeal.τ).loc ReferenceIdeal.main_arg3)
        = m ((c.tc : Thread KernelIdeal.nD KernelIdeal.τ).loc KernelIdeal.main_arg3)
      ∧ m' ((c.tc : Thread ReferenceIdeal.nD ReferenceIdeal.τ).loc ReferenceIdeal.main_arg4)
        = m ((c.tc : Thread KernelIdeal.nD KernelIdeal.τ).loc KernelIdeal.main_arg4)
      ∧ m' ((c.tc : Thread ReferenceIdeal.nD ReferenceIdeal.τ).loc ReferenceIdeal.main_arg5)
        = m ((c.tc : Thread KernelIdeal.nD KernelIdeal.τ).loc KernelIdeal.main_arg5)
      ∧ m' ((c.tc : Thread ReferenceIdeal.nD ReferenceIdeal.τ).loc ReferenceIdeal.main_arg6)
        = m ((c.tc : Thread KernelIdeal.nD KernelIdeal.τ).loc KernelIdeal.main_arg6)
      ∧ m' ((c.tc : Thread ReferenceIdeal.nD ReferenceIdeal.τ).loc ReferenceIdeal.main_arg7)
        = m ((c.tc : Thread KernelIdeal.nD KernelIdeal.τ).loc KernelIdeal.main_arg7)
      ∧ m' ((c.tc : Thread ReferenceIdeal.nD ReferenceIdeal.τ).loc ReferenceIdeal.main_arg8)
        = m ((c.tc : Thread KernelIdeal.nD KernelIdeal.τ).loc KernelIdeal.main_arg8)
      ∧ m' ((c.tc : Thread ReferenceIdeal.nD ReferenceIdeal.τ).loc ReferenceIdeal.main_arg9)
        = m ((c.tc : Thread KernelIdeal.nD KernelIdeal.τ).loc KernelIdeal.main_arg9)
      ∧ m' ((c.tc : Thread ReferenceIdeal.nD ReferenceIdeal.τ).loc ReferenceIdeal.main_arg10)
        = m ((c.tc : Thread KernelIdeal.nD KernelIdeal.τ).loc KernelIdeal.main_arg10)
      ∧ m' ((c.tc : Thread ReferenceIdeal.nD ReferenceIdeal.τ).loc ReferenceIdeal.main_arg11)
        = m ((c.tc : Thread KernelIdeal.nD KernelIdeal.τ).loc KernelIdeal.main_arg11)
      ∧ m' ((c.tc : Thread ReferenceIdeal.nD ReferenceIdeal.τ).loc ReferenceIdeal.main_arg12)
        = m ((c.tc : Thread KernelIdeal.nD KernelIdeal.τ).loc KernelIdeal.main_arg12)
      ∧ m' ((c.tc : Thread ReferenceIdeal.nD ReferenceIdeal.τ).loc ReferenceIdeal.main_arg13)
        = m ((c.tc : Thread KernelIdeal.nD KernelIdeal.τ).loc KernelIdeal.main_arg13)
      ∧ m' ((c.tc : Thread ReferenceIdeal.nD ReferenceIdeal.τ).loc ReferenceIdeal.main_arg14)
        = m ((c.tc : Thread KernelIdeal.nD KernelIdeal.τ).loc KernelIdeal.main_arg14)
      ∧ m' ((c.tc : Thread ReferenceIdeal.nD ReferenceIdeal.τ).loc ReferenceIdeal.main_arg15)
        = m ((c.tc : Thread KernelIdeal.nD KernelIdeal.τ).loc KernelIdeal.main_arg15)
      ∧ m' ((c.tc : Thread ReferenceIdeal.nD ReferenceIdeal.τ).loc ReferenceIdeal.main_arg16)
        = m ((c.tc : Thread KernelIdeal.nD KernelIdeal.τ).loc KernelIdeal.main_arg16)) :
    ReferenceIdeal.Value.res_main_v84 (F := Ideal) m' c = KernelIdeal.Run.W6 m ρ c (Proc.devRef .tc KernelIdeal.main_v10) := by
  obtain ⟨⟨⟨x, hx⟩, s, hs⟩, ⟨⟨w1, hw1⟩, ⟨b1, hb1⟩, ⟨w2, hw2⟩, b2, hb2⟩, ⟨⟨g, hg⟩, ⟨gb, hgb⟩, l, hl⟩, ⟨⟨g2, hg2⟩, ⟨g2b, hg2b⟩, l2, hl2⟩, ga, hga⟩ :=
    Pre_inputs_ok.Value.inputs _ _ _ _ _ _ _ _ _ _ _ _ _ _ _ _ _ (hpre c)
  obtain ⟨be, hbe⟩ : ∃ be, m ((c.tc : Thread KernelIdeal.nD KernelIdeal.τ).loc KernelIdeal.main_arg16) = plain be :=
    ⟨fun j => m ((c.tc : Thread KernelIdeal.nD KernelIdeal.τ).loc KernelIdeal.main_arg16) (ix1 j),
      funext fun i => congrArg _ (funext fun k => match k with | 0 => rfl)⟩
  obtain ⟨e0, -, e2, -, -, e5, e6, e7, e8, e9, e10, e11, e12, e13, e14, e15, e16⟩ := agree
  rw [KernelIdeal.Value.result m ρ c hx hs hw1 hb1 hw2 hb2 hg hgb hl hg2 hg2b hl2 hga hbe, ReferenceIdeal.Value.result_stages,
    e0, e2, e5, e6, e7, e8, e9, e10, e11, e12, e13, e14, e15, e16, hx, hs, hw1, hb1, hw2, hb2, hg, hgb, hl, hg2, hg2b, hl2, hga, hbe,
    ReferenceIdeal.Value.stages_up]
  exact funext fun i => (entry_eq _ _ _ _ _ _ _ _).symm

end

/-- Both programs run, and end with the same result and their arguments. -/
theorem algebraic : algebraic_KernelIdeal_ReferenceIdeal_pre_inputs_ok := fun m g m' g' hpre hagree =>
  ⟨fun c => KernelIdeal.Run.W6 m g c (Proc.devRef .tc KernelIdeal.main_v10),
    (θ_run KernelIdeal.defs _ _).mono (fun _ h c => ⟨(h.1 c).2, (h.1 c).1⟩) (KernelIdeal.Run.run m g),
    (θ_run ReferenceIdeal.defs _ _).mono (fun _ h c => ⟨(h c).1.trans (result_eq m g m' hpre c (hagree c)), (h c).2⟩)
      (ReferenceIdeal.Value.run m' g')⟩

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_inputs_ok
public import proofs.«01_k».proof.Proof.Gen.ReferenceIdeal.Run
public import proofs.«01_k».proof.Proof.Kernel.Run
public import proofs.«01_k».proof.Proof.KernelIdeal.Run
public import proofs.«01_k».proof.Proof.ReferenceIdeal.Result
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The named constant is the one that the ideal kernel carries. -/
theorem preserves : Cert.preserves_Kernel_KernelIdeal :=
  IdealRules.named_const.statement Cert.KernelIdeal.κ "hundred_thousandth" .f32 0x3727C5AC#32 ((1 / 100000 : ℝ) : EReal) rfl

/-- Everything that the certificate claims. -/
theorem claim : Cert.Claim :=
  ⟨Cert.Kernel.Gen.facts, Cert.KernelIdeal.Gen.facts, Cert.ReferenceIdeal.Gen.facts, Cert.Pre_inputs_ok.Gen.facts,
    fun m g _ => Cert.Kernel.Run.frame m g,
    fun m g _ => Cert.KernelIdeal.Run.frame m g, fun m g _ => Cert.KernelIdeal.Run.frame m g,
    fun m g _ => Cert.ReferenceIdeal.Value.frame m g, fun m g _ => Cert.ReferenceIdeal.Value.frame m g,
    preserves, Cert.Equal.algebraic⟩

end Cert.Proof

end
